-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "qscale" .f32 0x3E38AA3B#32 (((Real.sqrt 64)⁻¹ * (Real.log 2)⁻¹ : ℝ) : EReal)
  ∧ IdealRules.named_const.Statement Cert.Kernel3Ideal.κ "log2e" .f32 0x3FB8AA3B#32 (((Real.log 2)⁻¹ : ℝ) : EReal)
  ∧ IdealRules.named_const.Statement Cert.Kernel3Ideal.κ "mask" .f32 0xF149F2CA#32 ⊥

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v36)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v54_2)) (v1 : (c : Dev Cert.Kernel4Ideal.nD) → Buf (Elt Ideal) ((c.tc : Thread Cert.Kernel4Ideal.nD Cert.Kernel4Ideal.τ).loc Cert.Kernel4Ideal.main_v54_3)) (v2 : (c : Dev Cert.Kernel4Ideal.nD) → Buf (Elt Ideal) ((c.tc : Thread Cert.Kernel4Ideal.nD Cert.Kernel4Ideal.τ).loc Cert.Kernel4Ideal.main_v54_4)) (v3 : (c : Dev Cert.Kernel4Ideal.nD) → Buf (Elt Ideal) ((c.tc : Thread Cert.Kernel4Ideal.nD Cert.Kernel4Ideal.τ).loc Cert.Kernel4Ideal.main_v54_5)) (v4 : (c : Dev Cert.Kernel4Ideal.nD) → Buf (Elt Ideal) ((c.tc : Thread Cert.Kernel4Ideal.nD Cert.Kernel4Ideal.τ).loc Cert.Kernel4Ideal.main_v54_11)) (v5 : (c : Dev Cert.Kernel4Ideal.nD) → Buf (Elt Ideal) ((c.tc : Thread Cert.Kernel4Ideal.nD Cert.Kernel4Ideal.τ).loc Cert.Kernel4Ideal.main_v54_12)) (v6 : (c : Dev Cert.Kernel4Ideal.nD) → Buf (Elt Ideal) ((c.tc : Thread Cert.Kernel4Ideal.nD Cert.Kernel4Ideal.τ).loc Cert.Kernel4Ideal.main_v54_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v54_2) = v0 c
          ∧ r.2.mem ((c.tc : Thread Cert.Kernel4Ideal.nD Cert.Kernel4Ideal.τ).loc Cert.Kernel4Ideal.main_v54_3) = v1 c
          ∧ r.2.mem ((c.tc : Thread Cert.Kernel4Ideal.nD Cert.Kernel4Ideal.τ).loc Cert.Kernel4Ideal.main_v54_4) = v2 c
          ∧ r.2.mem ((c.tc : Thread Cert.Kernel4Ideal.nD Cert.Kernel4Ideal.τ).loc Cert.Kernel4Ideal.main_v54_5) = v3 c
          ∧ r.2.mem ((c.tc : Thread Cert.Kernel4Ideal.nD Cert.Kernel4Ideal.τ).loc Cert.Kernel4Ideal.main_v54_11) = v4 c
          ∧ r.2.mem ((c.tc : Thread Cert.Kernel4Ideal.nD Cert.Kernel4Ideal.τ).loc Cert.Kernel4Ideal.main_v54_12) = v5 c
          ∧ r.2.mem ((c.tc : Thread Cert.Kernel4Ideal.nD Cert.Kernel4Ideal.τ).loc Cert.Kernel4Ideal.main_v54_13) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_v43) = v4 c
          ∧ r.2.mem ((c.tc : Thread Cert.Reference4Ideal.nD Cert.Reference4Ideal.τ).loc Cert.Reference4Ideal.main_v45) = v5 c
          ∧ r.2.mem ((c.tc : Thread Cert.Reference4Ideal.nD Cert.Reference4Ideal.τ).loc Cert.Reference4Ideal.main_v48) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x16384x1024 : Shape := ⟨3, ![2, 16384, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x16384x1024 : Shape := ⟨3, ![2, 16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x2816, .f32⟩
  | .hbm, ⟨22, _⟩ => ⟨S2x16384x2816, .f32⟩
  | .hbm, ⟨23, _⟩ => ⟨S2x16384x2816, .f32⟩
  | .hbm, ⟨24, _⟩ => ⟨S_, .f32⟩
  | .hbm, ⟨25, _⟩ => ⟨S2x16384x2816, .f32⟩
  | .hbm, ⟨26, _⟩ => ⟨S2x16384x2816, .f32⟩
  | .hbm, ⟨27, _⟩ => ⟨S_, .f32⟩
  | .hbm, ⟨28, _⟩ => ⟨S2x16384x2816, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x256 : Shape := ⟨3, ![2, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 21
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .bf16⟩
  | .hbm, ⟨2, _⟩ => ⟨S2x16384x256, .bf16⟩
  | .hbm, ⟨3, _⟩ => ⟨S2x16384x256, .bf16⟩
  | .hbm, ⟨4, _⟩ => ⟨S2x16384x256, .bf16⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S32768x1024, .f32⟩
  | .hbm, ⟨11, _⟩ => ⟨S32768x256, .bf16⟩
  | .hbm, ⟨12, _⟩ => ⟨S32768x256, .bf16⟩
  | .hbm, ⟨13, _⟩ => ⟨S32768x256, .bf16⟩
  | .hbm, ⟨14, _⟩ => ⟨S32768x256, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x16384x1024 : Shape := ⟨3, ![2, 16384, 1024]⟩
abbrev S2x16384x256 : Shape := ⟨3, ![2, 16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .bf16⟩
  | .hbm, ⟨2, _⟩ => ⟨S2x16384x256, .bf16⟩
  | .hbm, ⟨3, _⟩ => ⟨S2x16384x256, .bf16⟩
  | .hbm, ⟨4, _⟩ => ⟨S2x16384x256, .bf16⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x16384x1024, .bf16⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S_, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S2x16384x2816, .f32⟩
  | .hbm, ⟨41, _⟩ => ⟨S2x16384x2816, .f32⟩
  | .hbm, ⟨42, _⟩ => ⟨S2x16384x1024, .f32⟩
  | .hbm, ⟨43, _⟩ => ⟨S_, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Kernel3.lean ====
abbrev S2x16384x256 : Shape := ⟨3, ![2, 16384, 256]⟩
abbrev S4x257 : Shape := ⟨2, ![4, 257]⟩
abbrev S1024 : Shape := ⟨1, ![1024]⟩
abbrev S128x256x256 : Shape := ⟨3, ![128, 256, 256]⟩
abbrev S32768x256 : Shape := ⟨2, ![32768, 256]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1024x1 : Shape := ⟨2, ![1024, 1]⟩
abbrev S4x1024 : Shape := ⟨2, ![4, 1024]⟩
abbrev S1x4x1x1024 : Shape := ⟨4, ![1, 4, 1, 1024]⟩
abbrev S1x4x256x1024 : Shape := ⟨4, ![1, 4, 256, 1024]⟩
abbrev S4x262144 : Shape := ⟨2, ![4, 262144]⟩
abbrev S4x261888 : Shape := ⟨2, ![4, 261888]⟩
abbrev S4x256x1023 : Shape := ⟨3, ![4, 256, 1023]⟩
abbrev S4x256x768 : Shape := ⟨3, ![4, 256, 768]⟩
abbrev S1x256x768 : Shape := ⟨3, ![1, 256, 768]⟩
abbrev S4x768x256 : Shape := ⟨3, ![4, 768, 256]⟩
abbrev S2x256x256 : Shape := ⟨3, ![2, 256, 256]⟩
abbrev S256x256 : Shape := ⟨2, ![256, 256]⟩
abbrev S1x256x256 : Shape := ⟨3, ![1, 256, 256]⟩
abbrev S512x256 : Shape := ⟨2, ![512, 256]⟩
abbrev S1024x256 : Shape := ⟨2, ![1024, 256]⟩
abbrev S256x1024 : Shape := ⟨2, ![256, 1024]⟩
abbrev S768x256 : Shape := ⟨2, ![768, 256]⟩
abbrev S768x64 : Shape := ⟨2, ![768, 64]⟩
abbrev S64x256 : Shape := ⟨2, ![64, 256]⟩
abbrev S1x768x256 : Shape := ⟨3, ![1, 768, 256]⟩
abbrev S1x256 : Shape := ⟨2, ![1, 256]⟩
abbrev S64x768 : Shape := ⟨2, ![64, 768]⟩

abbrev nBuf : Space → Nat
  | .hbm => 84
  | .vmem => 21
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S4x257, .f32⟩
  | .hbm, ⟨4, _⟩ => ⟨S1024, .i32⟩
  | .hbm, ⟨5, _⟩ => ⟨S1024, .i1⟩
  | .hbm, ⟨6, _⟩ => ⟨S2x16384x256, .bf16⟩
  | .hbm, ⟨7, _⟩ => ⟨S128x256x256, .bf16⟩
  | .hbm, ⟨8, _⟩ => ⟨S128x256x256, .bf16⟩
  | .hbm, ⟨9, _⟩ => ⟨S2x16384x256, .bf16⟩
  | .hbm, ⟨10, _⟩ => ⟨S32768x256, .bf16⟩
  | .hbm, ⟨11, _⟩ => ⟨S2x16384x256, .bf16⟩
  | .hbm, ⟨12, _⟩ => ⟨S128x256x256, .bf16⟩
  | .hbm, ⟨13, _⟩ => ⟨S128x256x256, .bf16⟩
  | .hbm, ⟨14, _⟩ => ⟨S256, .i32⟩
  | .hbm, ⟨15, _⟩ => ⟨S256x1, .i32⟩
  | .hbm, ⟨16, _⟩ => ⟨S768, .i32⟩
  | .hbm, ⟨17, _⟩ => ⟨S1x768, .i32⟩
  | .hbm, ⟨18, _⟩ => ⟨S_, .i32⟩
  | .hbm, ⟨19, _⟩ => ⟨S_, .i32⟩
  | .hbm, ⟨20, _⟩ => ⟨S1x768, .i32⟩
  | .hbm, ⟨21, _⟩ => ⟨S1x768, .i32⟩
  | .hbm, ⟨22, _⟩ => ⟨S1x768, .i32⟩
  | .hbm, ⟨23, _⟩ => ⟨S_, .i32⟩
  | .hbm, ⟨24, _⟩ => ⟨S1x768, .i32⟩
  | .hbm, ⟨25, _⟩ => ⟨S1x768, .i1⟩
  | .hbm, ⟨26, _⟩ => ⟨S1x768, .i32⟩
  | .hbm, ⟨27, _⟩ => ⟨S1x768, .i32⟩
  | .hbm, ⟨28, _⟩ => ⟨S_, .i32⟩
  | .hbm, ⟨29, _⟩ => ⟨S1x768, .i32⟩
  | .hbm, ⟨30, _⟩ => ⟨S1x768, .i1⟩
  | .hbm, ⟨31, _⟩ => ⟨S1x768, .i1⟩
  | .hbm, ⟨32, _⟩ => ⟨S_, .i32⟩
  | .hbm, ⟨33, _⟩ => ⟨S1x768, .i32⟩
  | .hbm, ⟨34, _⟩ => ⟨S1x768, .i32⟩
  | .hbm, ⟨35, _⟩ => ⟨S1x768, .i32⟩
  | .hbm, ⟨36, _⟩ => ⟨S_, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x1, .i32⟩
  | .hbm, ⟨54, _⟩ => ⟨S256x768, .i32⟩
  | .hbm, ⟨55, _⟩ => ⟨S256x768, .i32⟩
  | .hbm, ⟨56, _⟩ => ⟨S256x768, .i32⟩
  | .hbm, ⟨57, _⟩ => ⟨S_, .i32⟩
  | .hbm, ⟨58, _⟩ => ⟨S256x768, .i32⟩
  | .hbm, ⟨59, _⟩ => ⟨S256x768, .i1⟩
  | .hbm, ⟨60, _⟩ => ⟨S_, .i32⟩
  | .hbm, ⟨61, _⟩ => ⟨S256x768, .i32⟩
  | .hbm, ⟨62, _⟩ => ⟨S256x768, .i1⟩
  | .hbm, ⟨63, _⟩ => ⟨S256x768, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S4x1024, .f32⟩
  | .hbm, ⟨70, _⟩ => ⟨S1x4x1x1024, .f32⟩
  | .hbm, ⟨71, _⟩ => ⟨S1x4x256x1024, .f32⟩
  | .hbm, ⟨72, _⟩ => ⟨S4x262144, .f32⟩
  | .hbm, ⟨73, _⟩ => ⟨S4x261888, .f32⟩
  | .hbm, ⟨74, _⟩ => ⟨S4x256x1023, .f32⟩
  | .hbm, ⟨75, _⟩ => ⟨S4x256x768, .f32⟩
  | .hbm, ⟨76, _⟩ => ⟨S1x256x768, .i1⟩
  | .hbm, ⟨77, _⟩ => ⟨S_, .f32⟩
  | .hbm, ⟨78, _⟩ => ⟨S_, .f32⟩
  | .hbm, ⟨79, _⟩ => ⟨S4x256x768, .i1⟩
  | .hbm, ⟨80, _⟩ => ⟨S4x256x768, .f32⟩
  | .hbm, ⟨81, _⟩ => ⟨S4x256x768, .f32⟩
  | .hbm, ⟨82, _⟩ => ⟨S4x768x256, .f32⟩
  | .hbm, ⟨83, _⟩ => ⟨S32768x256, .bf16⟩
  | .local _ .vmem, ⟨0, _⟩ => ⟨S2x256x256, .bf16⟩
  | .local _ .vmem, ⟨1, _⟩ => ⟨S2x256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S4x768x256, .f32⟩
  | .local _ .vmem, ⟨19, _⟩ => ⟨S512x256, .bf16⟩
  | .local _ .vmem, ⟨20, _⟩ => ⟨S512x256, .bf16⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_3 : Ref sig .tc := ⟨.hbm, 57, rfl⟩
abbrev main_v17 : Ref sig .tc := ⟨.hbm, 58, rfl⟩
abbrev main_v18 : Ref sig .tc := ⟨.hbm, 59, rfl⟩
abbrev main_c_4 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_c_5 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_19 : BitVec 32 := 0#32
  let v20 : BitVec 1 := Scalar.cmpi .ne v19 c0_i32_19
  v20

def k0_cond2 (i : grid0.Coords) : BitVec 1 :=
  let arg1 : BitVec 32 := BitVec.ofNat 32 (i 1).val
  let c0_i32_20 : BitVec 32 := 0#32
  let v21 : BitVec 1 := Scalar.cmpi .sgt arg1 c0_i32_20
  let v22 : BitVec 32 := Scalar.extui v21
  let c0_i32_21 : BitVec 32 := 0#32
  let v23 : BitVec 1 := Scalar.cmpi .ne v22 c0_i32_21
  v23

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c_m2_i32 : BitVec 32 := 4294967294#32
  let v2 : BitVec 32 := Scalar.addi v1 c_m2_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c_m1_i32 : BitVec 32 := 4294967295#32
  let v2 : BitVec 32 := Scalar.addi v1 c_m1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c_m2_i32 : BitVec 32 := 4294967294#32
  let v2 : BitVec 32 := Scalar.addi v1 c_m2_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  let c0_i32_2 : BitVec 32 := 0#32
  ![v4.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c_m1_i32 : BitVec 32 := 4294967295#32
  let v2 : BitVec 32 := Scalar.addi v1 c_m1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  let c0_i32_2 : BitVec 32 := 0#32
  ![v4.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c0_i32_1 : BitVec 32 := 0#32
  let c0_i32_2 : BitVec 32 := 0#32
  let c0_i32_3 : BitVec 32 := 0#32
  ![v4.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  let c0_i32_2 : BitVec 32 := 0#32
  ![v4.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x768x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask" => some ⊥
  | "qscale" => some (((Real.sqrt 64)⁻¹ * (Real.log 2)⁻¹ : ℝ) : EReal)
  | _ => none
-- ==== Reference3Ideal.lean ====
abbrev S2x16384x256 : Shape := ⟨3, ![2, 16384, 256]⟩
abbrev S4x257 : Shape := ⟨2, ![4, 257]⟩
abbrev S2x16384x4x64 : Shape := ⟨4, ![2, 16384, 4, 64]⟩
abbrev S2x4x16384x64 : Shape := ⟨4, ![2, 4, 16384, 64]⟩
abbrev S_ : Shape := ⟨0, ![]⟩
abbrev S2x4x16896x64 : Shape := ⟨4, ![2, 4, 16896, 64]⟩
abbrev S2x4x264x64x64 : Shape := ⟨5, ![2, 4, 264, 64, 64]⟩
abbrev S2x4x256x64x64 : Shape := ⟨5, ![2, 4, 256, 64, 64]⟩
abbrev S2x4x256x576x64 : Shape := ⟨5, ![2, 4, 256, 576, 64]⟩
abbrev S2x4x256x64x576 : Shape := ⟨5, ![2, 4, 256, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S256 : Shape := ⟨1, ![256]⟩
abbrev S256x1 : Shape := ⟨2, ![256, 1]⟩
abbrev S256x576 : Shape := ⟨2, ![256, 576]⟩
abbrev S1x1x256x1x576 : Shape := ⟨5, ![1, 1, 256, 1, 576]⟩
abbrev S1x4x1x64x576 : Shape := ⟨5, ![1, 4, 1, 64, 576]⟩
abbrev S2x4x256x64 : Shape := ⟨4, ![2, 4, 256, 64]⟩
abbrev S2x4x256x64x1 : Shape := ⟨5, ![2, 4, 256, 64, 1]⟩
abbrev S32768x256 : Shape := ⟨2, ![32768, 256]⟩

abbrev nBuf : Space → Nat
  | .hbm => 118
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S4x257, .f32⟩
  | .hbm, ⟨4, _⟩ => ⟨S2x16384x4x64, .f32⟩
  | .hbm, ⟨5, _⟩ => ⟨S2x4x16384x64, .f32⟩
  | .hbm, ⟨6, _⟩ => ⟨S2x16384x4x64, .f32⟩
  | .hbm, ⟨7, _⟩ => ⟨S2x4x16384x64, .f32⟩
  | .hbm, ⟨8, _⟩ => ⟨S2x16384x4x64, .f32⟩
  | .hbm, ⟨9, _⟩ => ⟨S2x4x16384x64, .f32⟩
  | .hbm, ⟨10, _⟩ => ⟨S_, .i32⟩
  | .hbm, ⟨11, _⟩ => ⟨S_, .f32⟩
  | .hbm, ⟨12, _⟩ => ⟨S2x4x16896x64, .f32⟩
  | .hbm, ⟨13, _⟩ => ⟨S2x4x264x64x64, .f32⟩
  | .hbm, ⟨14, _⟩ => ⟨S_, .i32⟩
  | .hbm, ⟨15, _⟩ => ⟨S_, .f32⟩
  | .hbm, ⟨16, _⟩ => ⟨S2x4x16896x64, .f32⟩
  | .hbm, ⟨17, _⟩ => ⟨S2x4x264x64x64, .f32⟩
  | .hbm, ⟨18, _⟩ => ⟨S2x4x256x64x64, .f32⟩
  | .hbm, ⟨19, _⟩ => ⟨S2x4x256x64x64, .f32⟩
  | .hbm, ⟨20, _⟩ => ⟨S2x4x256x64x64, .f32⟩
  | .hbm, ⟨21, _⟩ => ⟨S2x4x256x64x64, .f32⟩
  | .hbm, ⟨22, _⟩ => ⟨S2x4x256x64x64, .f32⟩
  | .hbm, ⟨23, _⟩ => ⟨S2x4x256x64x64, .f32⟩
  | .hbm, ⟨24, _⟩ => ⟨S2x4x256x64x64, .f32⟩
  | .hbm, ⟨25, _⟩ => ⟨S2x4x256x64x64, .f32⟩
  | .hbm, ⟨26, _⟩ => ⟨S2x4x256x64x64, .f32⟩
  | .hbm, ⟨27, _⟩ => ⟨S2x4x256x576x64, .f32⟩
  | .hbm, ⟨28, _⟩ => ⟨S2x4x256x64x64, .f32⟩
  | .hbm, ⟨29, _⟩ => ⟨S2x4x256x64x64, .f32⟩
  | .hbm, ⟨30, _⟩ => ⟨S2x4x256x64x64, .f32⟩
  | .hbm, ⟨31, _⟩ => ⟨S2x4x256x64x64, .f32⟩
  | .hbm, ⟨32, _⟩ => ⟨S2x4x256x64x64, .f32⟩
  | .hbm, ⟨33, _⟩ => ⟨S2x4x256x64x64, .f32⟩
  | .hbm, ⟨34, _⟩ => ⟨S2x4x256x64x64, .f32⟩
  | .hbm, ⟨35, _⟩ => ⟨S2x4x256x64x64, .f32⟩
  | .hbm, ⟨36, _⟩ => ⟨S2x4x256x64x64, .f32⟩
  | .hbm, ⟨37, _⟩ => ⟨S2x4x256x576x64, .f32⟩
  | .hbm, ⟨38, _⟩ => ⟨S2x4x256x64x64, .f32⟩
  | .hbm, ⟨39, _⟩ => ⟨S2x4x256x64x576, .f32⟩
  | .hbm, ⟨40, _⟩ => ⟨S_, .f32⟩
  | .hbm, ⟨41, _⟩ => ⟨S2x4x256x64x576, .f32⟩
  | .hbm, ⟨42, _⟩ => ⟨S2x4x256x64x576, .f32⟩
  | .hbm, ⟨43, _⟩ => ⟨S64, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S576, .i32⟩
  | .hbm, ⟨49, _⟩ => ⟨S1x576, .i32⟩
  | .hbm, ⟨50, _⟩ => ⟨S64x576, .i32⟩
  | .hbm, ⟨51, _⟩ => ⟨S64x576, .i32⟩
  | .hbm, ⟨52, _⟩ => ⟨S64x576, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S_, .i32⟩
  | .hbm, ⟨65, _⟩ => ⟨S64x576, .i32⟩
  | .hbm, ⟨66, _⟩ => ⟨S64x576, .i1⟩
  | .hbm, ⟨67, _⟩ => ⟨S_, .i32⟩
  | .hbm, ⟨68, _⟩ => ⟨S64x576, .i32⟩
  | .hbm, ⟨69, _⟩ => ⟨S64x576, .i32⟩
  | .hbm, ⟨70, _⟩ => ⟨S64x576, .i32⟩
  | .hbm, ⟨71, _⟩ => ⟨S64x576x1, .i32⟩
  | .hbm, ⟨72, _⟩ => ⟨S4x64x576, .f32⟩
  | .hbm, ⟨73, _⟩ => ⟨S256, .i32⟩
  | .hbm, ⟨74, _⟩ => ⟨S256x1, .i32⟩
  | .hbm, ⟨75, _⟩ => ⟨S_, .i32⟩
  | .hbm, ⟨76, _⟩ => ⟨S256x1, .i32⟩
  | .hbm, ⟨77, _⟩ => ⟨S256x1, .i32⟩
  | .hbm, ⟨78, _⟩ => ⟨S_, .i32⟩
  | .hbm, ⟨79, _⟩ => ⟨S256x1, .i32⟩
  | .hbm, ⟨80, _⟩ => ⟨S256x1, .i32⟩
  | .hbm, ⟨81, _⟩ => ⟨S576, .i32⟩
  | .hbm, ⟨82, _⟩ => ⟨S1x576, .i32⟩
  | .hbm, ⟨83, _⟩ => ⟨S256x576, .i32⟩
  | .hbm, ⟨84, _⟩ => ⟨S256x576, .i32⟩
  | .hbm, ⟨85, _⟩ => ⟨S256x576, .i32⟩
  | .hbm, ⟨86, _⟩ => ⟨S_, .i32⟩
  | .hbm, ⟨87, _⟩ => ⟨S256x576, .i32⟩
  | .hbm, ⟨88, _⟩ => ⟨S256x576, .i1⟩
  | .hbm, ⟨89, _⟩ => ⟨S1x1x256x1x576, .i1⟩
  | .hbm, ⟨90, _⟩ => ⟨S1x4x1x64x576, .f32⟩
  | .hbm, ⟨91, _⟩ => ⟨S2x4x256x64x576, .f32⟩
  | .hbm, ⟨92, _⟩ => ⟨S2x4x256x64x576, .f32⟩
  | .hbm, ⟨93, _⟩ => ⟨S_, .f32⟩
  | .hbm, ⟨94, _⟩ => ⟨S_, .f32⟩
  | .hbm, ⟨95, _⟩ => ⟨S2x4x256x64x576, .i1⟩
  | .hbm, ⟨96, _⟩ => ⟨S2x4x256x64x576, .f32⟩
  | .hbm, ⟨97, _⟩ => ⟨S2x4x256x64x576, .f32⟩
  | .hbm, ⟨98, _⟩ => ⟨S_, .f32⟩
  | .hbm, ⟨99, _⟩ => ⟨S2x4x256x64, .f32⟩
  | .hbm, ⟨100, _⟩ => ⟨S2x4x256x64x1, .f32⟩
  | .hbm, ⟨101, _⟩ => ⟨S2x4x256x64x576, .f32⟩
  | .hbm, ⟨102, _⟩ => ⟨S2x4x256x64x576, .f32⟩
  | .hbm, ⟨103, _⟩ => ⟨S2x4x256x64x576, .f32⟩
  | .hbm, ⟨104, _⟩ => ⟨S_, .f32⟩
  | .hbm, ⟨105, _⟩ => ⟨S2x4x256x64, .f32⟩
  | .hbm, ⟨106, _⟩ => ⟨S2x4x256x64x1, .f32⟩
  | .hbm, ⟨107, _⟩ => ⟨S_, .f32⟩
  | .hbm, ⟨108, _⟩ => ⟨S2x4x256x64x1, .f32⟩
  | .hbm, ⟨109, _⟩ => ⟨S2x4x256x64x1, .f32⟩
  | .hbm, ⟨110, _⟩ => ⟨S2x4x256x64x576, .f32⟩
  | .hbm, ⟨111, _⟩ => ⟨S2x4x256x64x576, .f32⟩
  | .hbm, ⟨112, _⟩ => ⟨S2x4x256x64x64, .f32⟩
  | .hbm, ⟨113, _⟩ => ⟨S2x4x16384x64, .f32⟩
  | .hbm, ⟨114, _⟩ => ⟨S2x16384x4x64, .f32⟩
  | .hbm, ⟨115, _⟩ => ⟨S2x16384x256, .f32⟩
  | .hbm, ⟨116, _⟩ => ⟨S32768x256, .f32⟩
  | .hbm, ⟨117, _⟩ => ⟨S32768x256, .bf16⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_2 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v43 : Ref sig .tc := ⟨.hbm, 60, rfl⟩
abbrev main_c_4 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_7 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_9 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S1024x3336 : Shape := ⟨2, ![1024, 3336]⟩
abbrev S2x4 : Shape := ⟨2, ![2, 4]⟩
abbrev S64 : Shape := ⟨1, ![64]⟩
abbrev S32 : Shape := ⟨1, ![32]⟩
abbrev S1024x256 : Shape := ⟨2, ![1024, 256]⟩
abbrev S1024x512 : Shape := ⟨2, ![1024, 512]⟩
abbrev S1024x4 : Shape := ⟨2, ![1024, 4]⟩
abbrev S1024x1792 : Shape := ⟨2, ![1024, 1792]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S16x1024 : Shape := ⟨2, ![16, 1024]⟩
abbrev S256x1024 : Shape := ⟨2, ![256, 1024]⟩
abbrev S1552x1024 : Shape := ⟨2, ![1552, 1024]⟩
abbrev S8 : Shape := ⟨1, ![8]⟩
abbrev S128 : Shape := ⟨1, ![128]⟩
abbrev S1x128 : Shape := ⟨2, ![1, 128]⟩
abbrev S16 : Shape := ⟨1, ![16]⟩
abbrev S16x1 : Shape := ⟨2, ![16, 1]⟩
abbrev S32768x1024 : Shape := ⟨2, ![32768, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S1x32 : Shape := ⟨2, ![1, 32]⟩
abbrev S8x32 : Shape := ⟨2, ![8, 32]⟩
abbrev S1x1024 : Shape := ⟨2, ![1, 1024]⟩
abbrev S128x256x256 : Shape := ⟨3, ![128, 256, 256]⟩
abbrev S32768x256 : Shape := ⟨2, ![32768, 256]⟩
abbrev S32768x512 : Shape := ⟨2, ![32768, 512]⟩
abbrev S32768x128 : Shape := ⟨2, ![32768, 128]⟩
abbrev S16x32768 : Shape := ⟨2, ![16, 32768]⟩
abbrev S128x320x256 : Shape := ⟨3, ![128, 320, 256]⟩
abbrev S512x1024 : Shape := ⟨2, ![512, 1024]⟩
abbrev S2x256x256 : Shape := ⟨3, ![2, 256, 256]⟩
abbrev S512x256 : Shape := ⟨2, ![512, 256]⟩
abbrev S512x512 : Shape := ⟨2, ![512, 512]⟩
abbrev S512x128 : Shape := ⟨2, ![512, 128]⟩
abbrev S16x512 : Shape := ⟨2, ![16, 512]⟩
abbrev S2x320x256 : Shape := ⟨3, ![2, 320, 256]⟩
abbrev S512 : Shape := ⟨1, ![512]⟩
abbrev S512x1 : Shape := ⟨2, ![512, 1]⟩
abbrev S1552x512 : Shape := ⟨2, ![1552, 512]⟩
abbrev S256x512 : Shape := ⟨2, ![256, 512]⟩
abbrev S256x256 : Shape := ⟨2, ![256, 256]⟩
abbrev S1x256x256 : Shape := ⟨3, ![1, 256, 256]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩

abbrev nBuf : Space → Nat
  | .hbm => 84
  | .vmem => 40
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3336, .f32⟩
  | .hbm, ⟨3, _⟩ => ⟨S2x4, .f32⟩
  | .hbm, ⟨4, _⟩ => ⟨S64, .f32⟩
  | .hbm, ⟨5, _⟩ => ⟨S64, .f32⟩
  | .hbm, ⟨6, _⟩ => ⟨S32, .f32⟩
  | .hbm, ⟨7, _⟩ => ⟨S32, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x256, .f32⟩
  | .hbm, ⟨13, _⟩ => ⟨S1024x256, .f32⟩
  | .hbm, ⟨14, _⟩ => ⟨S1024x4, .f32⟩
  | .hbm, ⟨15, _⟩ => ⟨S1024x4, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S1024x1792, .f32⟩
  | .hbm, ⟨23, _⟩ => ⟨S1024x1792, .bf16⟩
  | .hbm, ⟨24, _⟩ => ⟨S1024x8, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x128, .bf16⟩
  | .hbm, ⟨29, _⟩ => ⟨S8x1024, .f32⟩
  | .hbm, ⟨30, _⟩ => ⟨S_, .i32⟩
  | .hbm, ⟨31, _⟩ => ⟨S_, .f32⟩
  | .hbm, ⟨32, _⟩ => ⟨S16x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S1552x1024, .f32⟩
  | .hbm, ⟨40, _⟩ => ⟨S1552x1024, .bf16⟩
  | .hbm, ⟨41, _⟩ => ⟨S8, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .i32⟩
  | .hbm, ⟨47, _⟩ => ⟨S_, .f32⟩
  | .hbm, ⟨48, _⟩ => ⟨S16, .f32⟩
  | .hbm, ⟨49, _⟩ => ⟨S16x1, .f32⟩
  | .hbm, ⟨50, _⟩ => ⟨S32768x1024, .f32⟩
  | .hbm, ⟨51, _⟩ => ⟨S1x64, .f32⟩
  | .hbm, ⟨52, _⟩ => ⟨S4x64, .f32⟩
  | .hbm, ⟨53, _⟩ => ⟨S256, .f32⟩
  | .hbm, ⟨54, _⟩ => ⟨S1x256, .f32⟩
  | .hbm, ⟨55, _⟩ => ⟨S256x1, .f32⟩
  | .hbm, ⟨56, _⟩ => ⟨S1x64, .f32⟩
  | .hbm, ⟨57, _⟩ => ⟨S4x64, .f32⟩
  | .hbm, ⟨58, _⟩ => ⟨S256, .f32⟩
  | .hbm, ⟨59, _⟩ => ⟨S1x256, .f32⟩
  | .hbm, ⟨60, _⟩ => ⟨S1x32, .f32⟩
  | .hbm, ⟨61, _⟩ => ⟨S8x32, .f32⟩
  | .hbm, ⟨62, _⟩ => ⟨S256, .f32⟩
  | .hbm, ⟨63, _⟩ => ⟨S1x256, .f32⟩
  | .hbm, ⟨64, _⟩ => ⟨S256x1, .f32⟩
  | .hbm, ⟨65, _⟩ => ⟨S1x32, .f32⟩
  | .hbm, ⟨66, _⟩ => ⟨S8x32, .f32⟩
  | .hbm, ⟨67, _⟩ => ⟨S256, .f32⟩
  | .hbm, ⟨68, _⟩ => ⟨S1x256, .f32⟩
  | .hbm, ⟨69, _⟩ => ⟨S1x1024, .f32⟩
  | .hbm, ⟨70, _⟩ => ⟨S128x256x256, .bf16⟩
  | .hbm, ⟨71, _⟩ => ⟨S32768x256, .bf16⟩
  | .hbm, ⟨72, _⟩ => ⟨S128x256x256, .bf16⟩
  | .hbm, ⟨73, _⟩ => ⟨S32768x512, .f32⟩
  | .hbm, ⟨74, _⟩ => ⟨S32768x256, .bf16⟩
  | .hbm, ⟨75, _⟩ => ⟨S32768x256, .f32⟩
  | .hbm, ⟨76, _⟩ => ⟨S32768x128, .f32⟩
  | .hbm, ⟨77, _⟩ => ⟨S16x32768, .f32⟩
  | .hbm, ⟨78, _⟩ => ⟨S128x256x256, .bf16⟩
  | .hbm, ⟨79, _⟩ => ⟨S32768x256, .bf16⟩
  | .hbm, ⟨80, _⟩ => ⟨S128x320x256, .bf16⟩
  | .hbm, ⟨81, _⟩ => ⟨S128x256x256, .bf16⟩
  | .hbm, ⟨82, _⟩ => ⟨S32768x256, .bf16⟩
  | .hbm, ⟨83, _⟩ => ⟨S128x256x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1552x1024, .bf16⟩
  | .local _ .vmem, ⟨5, _⟩ => ⟨S1024x128, .bf16⟩
  | .local _ .vmem, ⟨6, _⟩ => ⟨S1x128, .f32⟩
  | .local _ .vmem, ⟨7, _⟩ => ⟨S16x1, .f32⟩
  | .local _ .vmem, ⟨8, _⟩ => ⟨S256x1, .f32⟩
  | .local _ .vmem, ⟨9, _⟩ => ⟨S1x256, .f32⟩
  | .local _ .vmem, ⟨10, _⟩ => ⟨S256x1, .f32⟩
  | .local _ .vmem, ⟨11, _⟩ => ⟨S1x256, .f32⟩
  | .local _ .vmem, ⟨12, _⟩ => ⟨S2x256x256, .bf16⟩
  | .local _ .vmem, ⟨13, _⟩ => ⟨S2x256x256, .bf16⟩
  | .local _ .vmem, ⟨14, _⟩ => ⟨S512x256, .bf16⟩
  | .local _ .vmem, ⟨15, _⟩ => ⟨S512x256, .bf16⟩
  | .local _ .vmem, ⟨16, _⟩ => ⟨S2x256x256, .bf16⟩
  | .local _ .vmem, ⟨17, _⟩ => ⟨S2x256x256, .bf16⟩
  | .local _ .vmem, ⟨18, _⟩ => ⟨S512x512, .f32⟩
  | .local _ .vmem, ⟨19, _⟩ => ⟨S512x512, .f32⟩
  | .local _ .vmem, ⟨20, _⟩ => ⟨S512x256, .bf16⟩
  | .local _ .vmem, ⟨21, _⟩ => ⟨S512x256, .bf16⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | .local _ .vmem, ⟨26, _⟩ => ⟨S16x512, .f32⟩
  | .local _ .vmem, ⟨27, _⟩ => ⟨S16x512, .f32⟩
  | .local _ .vmem, ⟨28, _⟩ => ⟨S2x256x256, .bf16⟩
  | .local _ .vmem, ⟨29, _⟩ => ⟨S2x256x256, .bf16⟩
  | .local _ .vmem, ⟨30, _⟩ => ⟨S512x256, .bf16⟩
  | .local _ .vmem, ⟨31, _⟩ => ⟨S512x256, .bf16⟩
  | .local _ .vmem, ⟨32, _⟩ => ⟨S2x320x256, .bf16⟩
  | .local _ .vmem, ⟨33, _⟩ => ⟨S2x320x256, .bf16⟩
  | .local _ .vmem, ⟨34, _⟩ => ⟨S2x256x256, .bf16⟩
  | .local _ .vmem, ⟨35, _⟩ => ⟨S2x256x256, .bf16⟩
  | .local _ .vmem, ⟨36, _⟩ => ⟨S512x256, .bf16⟩
  | .local _ .vmem, ⟨37, _⟩ => ⟨S512x256, .bf16⟩
  | .local _ .vmem, ⟨38, _⟩ => ⟨S2x256x256, .bf16⟩
  | .local _ .vmem, ⟨39, _⟩ => ⟨S2x256x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_1 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_c_2 : Ref sig .tc := ⟨.hbm, 46, rfl⟩
abbrev main_call3_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54_0 : Ref sig .tc := ⟨.hbm, 70, rfl⟩
abbrev main_v54_1 : Ref sig .tc := ⟨.hbm, 71, rfl⟩
abbrev main_v54_2 : Ref sig .tc := ⟨.hbm, 72, rfl⟩
abbrev main_v54_3 : Ref sig .tc := ⟨.hbm, 73, rfl⟩
abbrev main_v54_4 : Ref sig .tc := ⟨.hbm, 74, rfl⟩
abbrev main_v54_5 : Ref sig .tc := ⟨.hbm, 75, rfl⟩
abbrev main_v54_6 : Ref sig .tc := ⟨.hbm, 76, rfl⟩
abbrev main_v54_7 : Ref sig .tc := ⟨.hbm, 77, rfl⟩
abbrev main_v54_8 : Ref sig .tc := ⟨.hbm, 78, rfl⟩
abbrev main_v54_9 : Ref sig .tc := ⟨.hbm, 79, rfl⟩
abbrev main_v54_10 : Ref sig .tc := ⟨.hbm, 80, rfl⟩
abbrev main_v54_11 : Ref sig .tc := ⟨.hbm, 81, rfl⟩
abbrev main_v54_12 : Ref sig .tc := ⟨.hbm, 82, rfl⟩
abbrev main_v54_13 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1552x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x320x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference4Ideal.lean ====
abbrev S2x16384x1024 : Shape := ⟨3, ![2, 16384, 1024]⟩
abbrev S1024 : Shape := ⟨1, ![1024]⟩
abbrev S1024x3336 : Shape := ⟨2, ![1024, 3336]⟩
abbrev S2x4 : Shape := ⟨2, ![2, 4]⟩
abbrev S64 : Shape := ⟨1, ![64]⟩
abbrev S32 : Shape := ⟨1, ![32]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3336 : Shape := ⟨3, ![2, 16384, 3336]⟩
abbrev S2x16384x256 : Shape := ⟨3, ![2, 16384, 256]⟩
abbrev S2x16384x512 : Shape := ⟨3, ![2, 16384, 512]⟩
abbrev S2x16384x4 : Shape := ⟨3, ![2, 16384, 4]⟩
abbrev S128x256x256 : Shape := ⟨3, ![128, 256, 256]⟩
abbrev S32768x512 : Shape := ⟨2, ![32768, 512]⟩
abbrev S32768x256 : Shape := ⟨2, ![32768, 256]⟩

abbrev nBuf : Space → Nat
  | .hbm => 62
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3336, .f32⟩
  | .hbm, ⟨3, _⟩ => ⟨S2x4, .f32⟩
  | .hbm, ⟨4, _⟩ => ⟨S64, .f32⟩
  | .hbm, ⟨5, _⟩ => ⟨S64, .f32⟩
  | .hbm, ⟨6, _⟩ => ⟨S32, .f32⟩
  | .hbm, ⟨7, _⟩ => ⟨S32, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S2x16384x3336, .f32⟩
  | .hbm, ⟨25, _⟩ => ⟨S2x16384x256, .f32⟩
  | .hbm, ⟨26, _⟩ => ⟨S2x16384x256, .f32⟩
  | .hbm, ⟨27, _⟩ => ⟨S2x16384x256, .f32⟩
  | .hbm, ⟨28, _⟩ => ⟨S2x16384x512, .f32⟩
  | .hbm, ⟨29, _⟩ => ⟨S2x16384x256, .f32⟩
  | .hbm, ⟨30, _⟩ => ⟨S2x16384x256, .f32⟩
  | .hbm, ⟨31, _⟩ => ⟨S2x16384x4, .f32⟩
  | .hbm, ⟨32, _⟩ => ⟨S2x16384x4, .f32⟩
  | .hbm, ⟨33, _⟩ => ⟨S2x16384x256, .f32⟩
  | .hbm, ⟨34, _⟩ => ⟨S2x16384x256, .f32⟩
  | .hbm, ⟨35, _⟩ => ⟨S2x16384x256, .f32⟩
  | .hbm, ⟨36, _⟩ => ⟨S2x16384x256, .f32⟩
  | .hbm, ⟨37, _⟩ => ⟨S2x16384x256, .f32⟩
  | .hbm, ⟨38, _⟩ => ⟨S2x16384x256, .f32⟩
  | .hbm, ⟨39, _⟩ => ⟨S128x256x256, .f32⟩
  | .hbm, ⟨40, _⟩ => ⟨S128x256x256, .f32⟩
  | .hbm, ⟨41, _⟩ => ⟨S128x256x256, .bf16⟩
  | .hbm, ⟨42, _⟩ => ⟨S32768x512, .f32⟩
  | .hbm, ⟨43, _⟩ => ⟨S32768x256, .f32⟩
  | .hbm, ⟨44, _⟩ => ⟨S32768x256, .bf16⟩
  | .hbm, ⟨45, _⟩ => ⟨S2x16384x256, .f32⟩
  | .hbm, ⟨46, _⟩ => ⟨S2x16384x256, .f32⟩
  | .hbm, ⟨47, _⟩ => ⟨S_, .f32⟩
  | .hbm, ⟨48, _⟩ => ⟨S2x16384x256, .f32⟩
  | .hbm, ⟨49, _⟩ => ⟨S2x16384x256, .f32⟩
  | .hbm, ⟨50, _⟩ => ⟨S_, .f32⟩
  | .hbm, ⟨51, _⟩ => ⟨S2x16384x256, .f32⟩
  | .hbm, ⟨52, _⟩ => ⟨S2x16384x256, .f32⟩
  | .hbm, ⟨53, _⟩ => ⟨S32768x256, .f32⟩
  | .hbm, ⟨54, _⟩ => ⟨S128x256x256, .f32⟩
  | .hbm, ⟨55, _⟩ => ⟨S128x256x256, .f32⟩
  | .hbm, ⟨56, _⟩ => ⟨S128x256x256, .bf16⟩
  | .hbm, ⟨57, _⟩ => ⟨S32768x256, .f32⟩
  | .hbm, ⟨58, _⟩ => ⟨S32768x256, .bf16⟩
  | .hbm, ⟨59, _⟩ => ⟨S128x256x256, .f32⟩
  | .hbm, ⟨60, _⟩ => ⟨S128x256x256, .f32⟩
  | .hbm, ⟨61, _⟩ => ⟨S128x256x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Proof.Softmax.lean ====
module

public import Idealize.ShloMosaic.Lib.Pointwise

/-!
# A weighted mean in base two

The kernel takes its exponentials in base two, of scores it has scaled by `1 / log 2`, and it takes them over
a wider run of keys, in which the keys outside the band carry the score `-∞`.  Both make no difference: a power
of two of `y / log 2` is the exponential of `y`, and a key whose score is `-∞` has weight zero.
-/

@[expose] public section

noncomputable section
open Idealize.ShloMosaic

namespace Cert.Softmax

/-- The mean of `v` weighted by the exponentials of the scores `x`. -/
def mean {n : ℕ} (x v : Fin n → EReal) : EReal :=
  ∑ j, Ideal.exp (x j - Finset.univ.fold max ⊥ x) * Ideal.div 1 (∑ l, Ideal.exp (x l - Finset.univ.fold max ⊥ x)) * v j

/-- The same with powers of two. -/
def mean2 {n : ℕ} (x v : Fin n → EReal) : EReal :=
  ∑ j, v j * (Ideal.exp2 (x j - Finset.univ.fold max ⊥ x) * Ideal.div 1 (∑ l, Ideal.exp2 (x l - Finset.univ.fold max ⊥ x)))

/-- `1 / log 2`. -/
def L : ℝ := (Real.log 2)⁻¹

theorem L_pos : 0 < L := inv_pos.mpr (Real.log_pos (by norm_num))

theorem L_top : (L : EReal) * ⊤ = ⊤ := EReal.coe_mul_top_of_pos L_pos
theorem L_bot : (L : EReal) * ⊥ = ⊥ := EReal.coe_mul_bot_of_pos L_pos

/-- The scale goes over a difference. -/
theorem L_sub (a b : EReal) : (L : EReal) * a - L * b = L * (a - b) := by
  induction a <;> induction b
  all_goals simp only [L_top, L_bot, EReal.bot_sub, EReal.sub_top, ← EReal.coe_mul, ← EReal.coe_sub, EReal.top_sub_coe,
    EReal.coe_sub_bot, EReal.top_sub_bot, mul_sub]

/-- The scale goes over a sum. -/
theorem L_add (a b : EReal) : (L : EReal) * a + L * b = L * (a + b) := by
  induction a <;> induction b
  all_goals simp only [L_top, L_bot, EReal.bot_add, EReal.add_bot, ← EReal.coe_mul, ← EReal.coe_add, EReal.top_add_coe,
    EReal.coe_add_top, EReal.top_add_top, mul_add]

/-- A power of two of a scaled number is the exponential of the number. -/
theorem exp2_L (z : EReal) : Ideal.exp2 (L * z) = Ideal.exp z := by
  induction z
  · rw [L_bot]; rfl
  · rw [← EReal.coe_mul]
    refine congrArg Real.toEReal ?_
    show Real.rpow 2 _ = Real.exp _
    rw [Real.rpow_eq_pow, Real.rpow_def_of_pos (by norm_num : (0:ℝ) < 2)]
    have : Real.log 2 ≠ 0 := (Real.log_pos (by norm_num)).ne'
    congr 1; unfold L; field_simp
  · rw [L_top]; rfl

/-- The scale goes over a maximum. -/
theorem L_max (a b : EReal) : (L : EReal) * max a b = max (L * a) (L * b) :=
  Monotone.map_max (f := fun x : EReal => (L : EReal) * x)
    (fun _ _ h => mul_le_mul_of_nonneg_left h (EReal.coe_nonneg.mpr L_pos.le))

/-- The wide run of scaled scores has the scaled maximum. -/
theorem max_wide {n k : ℕ} (e : Fin n → Fin k) (x : Fin n → EReal) (y : Fin k → EReal)
    (hy : ∀ j, y (e j) = L * x j) (ho : ∀ i, (∀ j, e j ≠ i) → y i = ⊥) :
    Finset.univ.fold max ⊥ y = L * Finset.univ.fold max ⊥ x := by
  have h : Finset.univ.fold max ⊥ (fun j => (L : EReal) * x j) = L * Finset.univ.fold max ⊥ x := by
    have := Finset.fold_hom (op := max) (op' := max) (b := (⊥ : EReal)) (f := x) (s := Finset.univ) (m := fun z : EReal => (L : EReal) * z) L_max
    simpa only [L_bot] using this
  rw [← h]
  apply le_antisymm
  · rw [Finset.fold_max_le]
    refine ⟨bot_le, fun i _ => ?_⟩
    by_cases hi : ∃ j, e j = i
    · obtain ⟨j, rfl⟩ := hi
      rw [Finset.le_fold_max]
      exact .inr ⟨j, Finset.mem_univ j, (hy j).le⟩
    · rw [ho i (fun j hj => hi ⟨j, hj⟩)]; exact bot_le
  · rw [Finset.fold_max_le]
    refine ⟨bot_le, fun j _ => ?_⟩
    rw [Finset.le_fold_max]
    exact .inr ⟨e j, Finset.mem_univ _, (hy j).ge⟩

/-- The mean over the wide run, in base two, is the mean over the band; the values at keys of score `-∞` do not
    matter. -/
theorem mean2_eq {n k : ℕ} (e : Fin n → Fin k) (he : Function.Injective e) (x v : Fin n → EReal) (y w : Fin k → EReal)
    (hy : ∀ j, y (e j) = L * x j) (ho : ∀ i, (∀ j, e j ≠ i) → y i = ⊥) (hw : ∀ j, x j = ⊥ ∨ w (e j) = v j) :
    mean2 y w = mean x v := by
  have hM := max_wide e x y hy ho
  have hin : ∀ j, Ideal.exp2 (y (e j) - Finset.univ.fold max ⊥ y) = Ideal.exp (x j - Finset.univ.fold max ⊥ x) := fun j => by
    rw [hM, hy, L_sub, exp2_L]
  have hout : ∀ i, i ∉ Set.range e → Ideal.exp2 (y i - Finset.univ.fold max ⊥ y) = 0 := fun i hi => by
    rw [ho i (fun j hj => hi ⟨j, hj⟩), EReal.bot_sub]; rfl
  have hs : ∑ l, Ideal.exp2 (y l - Finset.univ.fold max ⊥ y) = ∑ l, Ideal.exp (x l - Finset.univ.fold max ⊥ x) :=
    (Fintype.sum_of_injective e he _ _ hout fun j => (hin j).symm).symm
  unfold mean2 mean
  rw [hs]
  refine (Fintype.sum_of_injective e he _ _ (fun i hi => ?_) fun j => ?_).symm
  · rw [hout i hi, zero_mul, mul_zero]
  · rw [hin]
    obtain hj | hj := hw j
    · rw [hj, EReal.bot_sub]
      change 0 * _ * v j = w (e j) * (0 * _)
      rw [zero_mul, zero_mul, mul_zero]
    · rw [hj, mul_comm]

end Cert.Softmax
end
-- ==== Proof.AttnRef.lean ====
module

public import proofs.«01_k».proof.Proof.Gen.Reference3Ideal.Run
public import proofs.«01_k».proof.Proof.Softmax
public import Idealize.ShloMosaic.Lib.Pointwise

/-!
# The reference of the chunk attention, index by index
-/

@[expose] public section

set_option maxRecDepth 16384
noncomputable section
open Idealize.ShloMosaic Idealize.ShloMosaic.TcCoe Idealize.SL.Sem

namespace Cert.Reference3Ideal.Value
open Cert.Reference3Ideal Cert.Reference3Ideal.Gen

/-- The four heads side by side. -/
def HEADS (x : FVec Ideal S2x16384x256 .f32) : FVec Ideal S2x4x16384x64 .f32 :=
  transpose S2x4x16384x64 [0, 2, 1, 3] (shapeCast S2x16384x4x64 x shapeCasts_S2x16384x256_S2x16384x4x64) transposes_S2x16384x4x64_S2x4x16384x64_0_2_1_3

/-- The heads in chunks of 64 tokens, with eight chunks of zeros in front. -/
def BLOCKS (x : FVec Ideal S2x16384x256 .f32) : FVec Ideal S2x4x264x64x64 .f32 :=
  shapeCast S2x4x264x64x64 (pad S2x4x16896x64 ![0, 0, 512, 0] ![0, 0, 0, 0] ![0, 0, 0, 0] (HEADS x) (sitofp .f32 (constantI S_ 32 0#32)) pads_S2x4x16384x64_S2x4x16896x64_000_000_51200_000 h_S_) shapeCasts_S2x4x16896x64_S2x4x264x64x64

/-- The nine chunks each chunk attends to. -/
def BAND (b : FVec Ideal S2x4x264x64x64 .f32) : FVec Ideal S2x4x256x576x64 .f32 :=
  concatenate S2x4x256x576x64 3 [⟨S2x4x256x64x64, extractStridedSlice S2x4x256x64x64 ![0, 0, 0, 0, 0] b slices_S2x4x264x64x64_S2x4x256x64x64_0_0_0_0_0⟩, ⟨S2x4x256x64x64, extractStridedSlice S2x4x256x64x64 ![0, 0, 1, 0, 0] b slices_S2x4x264x64x64_S2x4x256x64x64_0_0_1_0_0⟩, ⟨S2x4x256x64x64, extractStridedSlice S2x4x256x64x64 ![0, 0, 2, 0, 0] b slices_S2x4x264x64x64_S2x4x256x64x64_0_0_2_0_0⟩, ⟨S2x4x256x64x64, extractStridedSlice S2x4x256x64x64 ![0, 0, 3, 0, 0] b slices_S2x4x264x64x64_S2x4x256x64x64_0_0_3_0_0⟩, ⟨S2x4x256x64x64, extractStridedSlice S2x4x256x64x64 ![0, 0, 4, 0, 0] b slices_S2x4x264x64x64_S2x4x256x64x64_0_0_4_0_0⟩, ⟨S2x4x256x64x64, extractStridedSlice S2x4x256x64x64 ![0, 0, 5, 0, 0] b slices_S2x4x264x64x64_S2x4x256x64x64_0_0_5_0_0⟩, ⟨S2x4x256x64x64, extractStridedSlice S2x4x256x64x64 ![0, 0, 6, 0, 0] b slices_S2x4x264x64x64_S2x4x256x64x64_0_0_6_0_0⟩, ⟨S2x4x256x64x64, extractStridedSlice S2x4x256x64x64 ![0, 0, 7, 0, 0] b slices_S2x4x264x64x64_S2x4x256x64x64_0_0_7_0_0⟩, ⟨S2x4x256x64x64, extractStridedSlice S2x4x256x64x64 ![0, 0, 8, 0, 0] b slices_S2x4x264x64x64_S2x4x256x64x64_0_0_8_0_0⟩] concatenates_S2x4x256x64x64_S2x4x256x64x64_S2x4x256x64x64_S2x4x256x64x64_S2x4x256x64x64_S2x4x256x64x64_S2x4x256x64x64_S2x4x256x64x64_S2x4x256x64x64_S2x4x256x576x64_d3

/-- The clipped distance of key `j` from query `i`, counted from 0. -/
def OFF : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

/-- The same as indices of the bias table. -/
def IDX : IVec S64x576x1 32 :=
  broadcastInDim S64x576x1 ![0, 1] bcast_S64x576_S64x576x1_0_1 (select (cmpi .slt OFF (broadcastInDim S64x576 ![] bcast_S_S64x576 (constantI S_ 32 0#32))) (addi OFF (broadcastInDim S64x576 ![] bcast_S_S64x576 (constantI S_ 32 257#32))) OFF)

/-- Which of a chunk's keys lie in the sequence. -/
def VALID : IVec S256x576 1 :=
  cmpi .sge (addi (broadcastInDim S256x576 ![0, 1] bcast_S256x1_S256x576_0_1 (subi (muli (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 512#32)))) (broadcastInDim S256x576 ![0, 1] bcast_S1x576_S256x576_0_1 (broadcastInDim S1x576 ![1] bcast_S576_S1x576_1 (iotaInDim S576 32 0)))) (broadcastInDim S256x576 ![] bcast_S_S256x576 (constantI S_ 32 0#32))

/-- The scores. -/
def SC (q k : FVec Ideal S2x16384x256 .f32) (rel : FVec Ideal S4x257 .f32) : FVec Ideal S2x4x256x64x576 .f32 :=
  select (broadcastInDim S2x4x256x64x576 ![0, 1, 2, 3, 4] bcast_S1x1x256x1x576_S2x4x256x64x576_0_1_2_3_4 (broadcastInDim S1x1x256x1x576 ![2, 4] bcast_S256x576_S1x1x256x1x576_2_4 VALID)) (addf (mulf (Host.dotGeneral dot_S2x4x256x64x64_S2x4x256x576x64_S2x4x256x64x576_4_4_3_3_012_012 none (shapeCast S2x4x256x64x64 (HEADS q) shapeCasts_S2x4x16384x64_S2x4x256x64x64) (BAND (BLOCKS k))) (broadcastInDim S2x4x256x64x576 ![] bcast_S_S2x4x256x64x576 (constant S_ .f32 0x3E000000#32))) (broadcastInDim S2x4x256x64x576 ![0, 1, 2, 3, 4] bcast_S1x4x1x64x576_S2x4x256x64x576_0_1_2_3_4 (broadcastInDim S1x4x1x64x576 ![1, 3, 4] bcast_S4x64x576_S1x4x1x64x576_1_3_4 (Host.gather gather_S4x257_S64x576x1_S4x64x576_0_1_n_n_1_2_41 rel IDX)))) (broadcastInDim S2x4x256x64x576 ![] bcast_S_S2x4x256x64x576 (id (constant S_ .f32 0xFF800000#32)))

/-- The exponentials of the scores. -/
def EX (SC : FVec Ideal S2x4x256x64x576 .f32) : FVec Ideal S2x4x256x64x576 .f32 :=
  Host.exp (subf SC (broadcastInDim S2x4x256x64x576 ![0, 1, 2, 3, 4] bcast_S2x4x256x64x1_S2x4x256x64x576_0_1_2_3_4 (broadcastInDim S2x4x256x64x1 ![0, 1, 2, 3] bcast_S2x4x256x64_S2x4x256x64x1_0_1_2_3 (Host.reduce FloatOps.maximumf SC (constant S_ .f32 0xFF800000#32) reducesTo_S2x4x256x64x576_S2x4x256x64_d4 h_S_))))

/-- The weights. -/
def PROB (EX : FVec Ideal S2x4x256x64x576 .f32) : FVec Ideal S2x4x256x64x576 .f32 :=
  mulf EX (broadcastInDim S2x4x256x64x576 ![0, 1, 2, 3, 4] bcast_S2x4x256x64x1_S2x4x256x64x576_0_1_2_3_4 (Host.divf (broadcastInDim S2x4x256x64x1 ![] bcast_S_S2x4x256x64x1 (constant S_ .f32 0x3F800000#32)) (broadcastInDim S2x4x256x64x1 ![0, 1, 2, 3] bcast_S2x4x256x64_S2x4x256x64x1_0_1_2_3 (Host.reduceAdd EX (constant S_ .f32 0x00000000#32) reducesTo_S2x4x256x64x576_S2x4x256x64_d4 h_S_))))

/-- The heads back side by side. -/
def MERGE (y : FVec Ideal S2x4x256x64x64 .f32) : FVec Ideal S32768x256 .bf16 :=
  truncf .bf16 (shapeCast S32768x256 (shapeCast S2x16384x256 (transpose S2x16384x4x64 [0, 2, 1, 3] (shapeCast S2x4x16384x64 y shapeCasts_S2x4x256x64x64_S2x4x16384x64) transposes_S2x4x16384x64_S2x16384x4x64_0_2_1_3) shapeCasts_S2x16384x4x64_S2x16384x256) shapeCasts_S2x16384x256_S32768x256) bitsLt_bf16_f32

/-- The reference's result as a term over its arguments. -/
def REF (q k v : FVec Ideal S2x16384x256 .f32) (rel : FVec Ideal S4x257 .f32) : FVec Ideal S32768x256 .bf16 :=
  MERGE (Host.dotGeneral dot_S2x4x256x64x576_S2x4x256x576x64_S2x4x256x64x64_4_3_3_4_012_012 none (PROB (EX (SC q k rel))) (BAND (BLOCKS v)))

/-- The reference's run names its result by a term; that term is `REF` of the arguments. -/
theorem res_eq (m : (ℓ : Loc nD τ sig) → Buf (Elt Ideal) ℓ) (c : Dev nD) : res_main_v87 m c
    = REF (m ((c : Thread nD τ).loc main_arg0)) (m ((c : Thread nD τ).loc main_arg1))
        (m ((c : Thread nD τ).loc main_arg2)) (m ((c : Thread nD τ).loc main_arg3)) := rfl

/-- The bias table read at the clipped distances. -/
theorem gather_at (rel : FVec Ideal S4x257 .f32) (idx : IVec S64x576x1 32) (h : Fin 4) (i : Fin 64) (j : Fin 576) :
    Host.gather gather_S4x257_S64x576x1_S4x64x576_0_1_n_n_1_2_41 rel idx (ix3 h i j)
      = rel (ix2 h ⟨min (idx (ix3 i j (0 : Fin 1))).toInt.toNat 256, by omega⟩) := by
  unfold Host.gather
  refine congrArg rel (funext fun a => Fin.ext ?_)
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (show (0 : Fin 2) ∉ gather_S4x257_S64x576x1_S4x64x576_0_1_n_n_1_2_41.startIndexMap from by simp [gather_S4x257_S64x576x1_S4x64x576_0_1_n_n_1_2_41])]
    unfold GatherDims.offCoord
    rw [dif_pos (show (0 : Fin 2) ∈ gather_S4x257_S64x576x1_S4x64x576_0_1_n_n_1_2_41.sKept from (GatherDims.mem_sKept _ _).mpr ⟨by simp [gather_S4x257_S64x576x1_S4x64x576_0_1_n_n_1_2_41], List.not_mem_nil⟩)]
    simp only [Nat.zero_add]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S4x257_S64x576x1_S4x64x576_0_1_n_n_1_2_41.startIndexMap from List.mem_singleton.mpr rfl)]
    simp only [Nat.add_zero]
    refine congrArg₂ min (congrArg (fun z => (idx z).toInt.toNat) (funext fun b => Fin.ext ?_)) rfl
    match b with
    | ⟨0, _⟩ => rfl
    | ⟨1, _⟩ => rfl
    | ⟨2, _⟩ => rfl

/-- The word arithmetic of the clipped distance, over all distances a band can meet. -/
theorem clip_word : ∀ e : Fin 640, (Scalar.select
      (IntOp.cmpi CmpIPredicate.slt (IntOp.addi (IntOp.minsi (128#32) (IntOp.maxsi (4294967168#32) (BitVec.ofNat 32 e.val - 64#32))) 128#32) 0#32)
      (IntOp.addi (IntOp.addi (IntOp.minsi (128#32) (IntOp.maxsi (4294967168#32) (BitVec.ofNat 32 e.val - 64#32))) 128#32) 257#32)
      (IntOp.addi (IntOp.minsi (128#32) (IntOp.maxsi (4294967168#32) (BitVec.ofNat 32 e.val - 64#32))) 128#32)).toInt.toNat
      = min 256 (64 + e.val) := by decide +kernel

/-- The index of the bias of key `j` for query `i`. -/
theorem idx_at (i : Fin 64) (j : Fin 576) : (IDX (ix3 i j (0 : Fin 1))).toInt.toNat = min 256 (640 + i.val - j.val) := by
  have hw : IntOp.subi (IntOp.addi (512#32) (BitVec.ofNat 32 i.val)) (BitVec.ofNat 32 j.val) = BitVec.ofNat 32 (576 + i.val - j.val) - 64#32 := by
    have := i.isLt; have := j.isLt
    show 512#32 + BitVec.ofNat 32 i.val - BitVec.ofNat 32 j.val = _
    bv_omega
  pointwise [IDX, OFF]
  rw [hw]
  have := i.isLt; have := j.isLt
  refine (clip_word ⟨576 + i.val - j.val, by omega⟩).trans ?_
  show min 256 (64 + (576 + i.val - j.val)) = _
  omega

/-- A chunk's key lies in the sequence when its place is not negative. -/
theorem valid_at (b : Fin 256) (j : Fin 576) : VALID (ix2 b j) = if 512 ≤ 64 * b.val + j.val then 1#1 else 0#1 := by
  have := b.isLt; have := j.isLt
  pointwise [VALID]
  have hw : IntOp.addi (IntOp.subi (IntOp.muli (BitVec.ofNat 32 b.val) 64#32) 512#32) (BitVec.ofNat 32 j.val)
      = BitVec.ofInt 32 ((64 * b.val + j.val : ℤ) - 512) := by
    show BitVec.ofNat 32 b.val * 64#32 - 512#32 + BitVec.ofNat 32 j.val = _
    apply BitVec.eq_of_toNat_eq
    simp only [BitVec.toNat_add, BitVec.toNat_sub, BitVec.toNat_mul, BitVec.toNat_ofNat, BitVec.toNat_ofInt]
    omega
  rw [hw]
  show BitVec.ofBool ((0#32).sle _) = _
  rw [BitVec.sle_eq_decide, BitVec.toInt_ofInt]
  split
  · rw [decide_eq_true (by simp [Int.bmod]; omega)]; rfl
  · rw [decide_eq_false (by simp [Int.bmod]; omega)]; rfl

/-- A head's tokens. -/
theorem heads_at (x : FVec Ideal S2x16384x256 .f32) (n : Fin 2) (h : Fin 4) (s : Fin 16384) (d : Fin 64) :
    HEADS x (ix4 n h s d) = x (ix3 n s ⟨h.val * 64 + d.val, by omega⟩) := by
  pointwise [HEADS]

/-- Token `j` of the band of chunk `b`: zero before the sequence's start. -/
def band (x : FVec Ideal S2x16384x256 .f32) (n : Fin 2) (b : Fin 256) (c : Fin 256) (j : Fin 576) : EReal :=
  if h : 512 ≤ 64 * b.val + j.val then x (ix3 n ⟨64 * b.val + j.val - 512, by omega⟩ c) else 0

theorem blocks_at (x : FVec Ideal S2x16384x256 .f32) (n : Fin 2) (h : Fin 4) (b : Fin 264) (i d : Fin 64) :
    BLOCKS x (ix5 n h b i d) = if g : 512 ≤ b.val * 64 + i.val then x (ix3 n ⟨b.val * 64 + i.val - 512, by omega⟩ ⟨h.val * 64 + d.val, by omega⟩) else 0 := by
  pointwise [BLOCKS, heads_at]
  by_cases g : 512 ≤ b.val * 64 + i.val
  · rw [dif_pos ⟨g, by omega⟩, dif_pos g]
  · rw [dif_neg (fun e => g e.1), dif_neg g]
    show ((((0#32).toInt : ℤ) : ℝ) : EReal) = 0
    simp

theorem band_eq (x : FVec Ideal S2x4x264x64x64 .f32) (n : Fin 2) (h : Fin 4) (b : Fin 256) (j : Fin 576) (d : Fin 64) :
    BAND x (ix5 n h b j d) = x (ix5 n h ⟨b.val + j.val / 64, by omega⟩ ⟨j.val % 64, by omega⟩ d) := by
  have := j.isLt
  pointwise [BAND]
  split_ifs
  all_goals
    congr 2
    · ext; simp only; omega
    · ext; simp only; omega

theorem band_at (x : FVec Ideal S2x16384x256 .f32) (n : Fin 2) (h : Fin 4) (b : Fin 256) (j : Fin 576) (d : Fin 64) :
    BAND (BLOCKS x) (ix5 n h b j d) = band x n b ⟨h.val * 64 + d.val, by omega⟩ j := by
  rw [band_eq, blocks_at]
  unfold band
  have e : (b.val + j.val / 64) * 64 + j.val % 64 = 64 * b.val + j.val := by omega
  simp only [e]

/-- The score of key `j` for query `i` of chunk `b`. -/
def score (q k : FVec Ideal S2x16384x256 .f32) (rel : FVec Ideal S4x257 .f32) (n : Fin 2) (h : Fin 4) (b : Fin 256) (i : Fin 64) (j : Fin 576) : EReal :=
  if g : 512 ≤ 64 * b.val + j.val then
    (∑ x : Fin 64, q (ix3 n ⟨b.val * 64 + i.val, by omega⟩ ⟨h.val * 64 + x.val, by omega⟩) * k (ix3 n ⟨64 * b.val + j.val - 512, by omega⟩ ⟨h.val * 64 + x.val, by omega⟩))
        * ((0.125 : ℝ) : EReal) + rel (ix2 h ⟨min 256 (640 + i.val - j.val), by omega⟩)
  else ⊥

theorem ofBits_bot : Ideal.ofBits .f32 0xFF800000#32 = ⊥ := by simp [Ideal.ofBits, Ideal.ieee]
theorem ofBits_eighth : Ideal.ofBits .f32 0x3E000000#32 = ((0.125 : ℝ) : EReal) := by
  simp [Ideal.ofBits, Ideal.ieee]; rw [← EReal.coe_mul]; norm_num

theorem sc_at (q k : FVec Ideal S2x16384x256 .f32) (rel : FVec Ideal S4x257 .f32) (n : Fin 2) (h : Fin 4) (b : Fin 256) (i : Fin 64) (j : Fin 576) :
    SC q k rel (ix5 n h b i j) = score q k rel n h b i j := by
  pointwise [SC]
  unfold score
  rw [valid_at, gather_at]
  simp only [heads_at, band_at, idx_at]
  by_cases g : 512 ≤ 64 * b.val + j.val
  · rw [if_pos g, dif_pos g]
    simp only [band, dif_pos g, ofBits_eighth]
    refine congrArg₂ (fun a b : EReal => a + b) rfl (congrArg rel (congrArg _ (Fin.ext ?_)))
    show min (min 256 _) 256 = min 256 _
    omega
  · rw [if_neg g, dif_neg g]
    exact ofBits_bot

theorem prob_at (s : FVec Ideal S2x4x256x64x576 .f32) (n : Fin 2) (h : Fin 4) (b : Fin 256) (i : Fin 64) (j : Fin 576) :
    PROB (EX s) (ix5 n h b i j) = Ideal.exp (s (ix5 n h b i j) - Finset.univ.fold max ⊥ (fun l => s (ix5 n h b i l)))
      * Ideal.div 1 (∑ l, Ideal.exp (s (ix5 n h b i l) - Finset.univ.fold max ⊥ (fun l => s (ix5 n h b i l)))) := by
  pointwise [PROB, EX]
  rw [ofBits_bot]

/-- The reference's result: for token `i` of chunk `b` and head `h`, the mean of the band's values weighted by the
    exponentials of their scores. -/
theorem ref_at (q k v : FVec Ideal S2x16384x256 .f32) (rel : FVec Ideal S4x257 .f32) (n : Fin 2) (b : Fin 256) (i : Fin 64) (h : Fin 4) (d : Fin 64)
    (r : Fin 32768) (c : Fin 256) (hr : r.val = 16384 * n.val + 64 * b.val + i.val) (hc : c.val = h.val * 64 + d.val) :
    REF q k v rel (ix2 r c) = Softmax.mean (score q k rel n h b i) (band v n b c) := by
  have hc' : c = ⟨h.val * 64 + d.val, by omega⟩ := Fin.ext hc
  have hm : ∀ y, MERGE y (ix2 r c) = y (ix5 n h b i d) := fun y => by
    pointwise [MERGE]
    congr 2 <;> (ext; simp only; omega)
  unfold REF
  rw [hm]
  pointwise
  unfold Softmax.mean
  simp only [prob_at, sc_at, band_at, hc']

end Cert.Reference3Ideal.Value
end
-- ==== Proof.AttnPay.lean ====
module

public import proofs.«01_k».proof.Proof.Gen.Kernel3Ideal.Frame.RunA
public import proofs.«01_k».proof.Proof.Softmax
public import proofs.«01_k».proof.Proof.AttnRef
public import Idealize.ShloMosaic.Lib.Pointwise

/-!
# What the chunk attention's body computes, index by index
-/

@[expose] public section

set_option maxRecDepth 16384
noncomputable section
open Idealize.ShloMosaic Idealize.ShloMosaic.TcCoe Idealize.SL.Sem

namespace Cert.Kernel3Ideal.Attn
open Cert.Kernel3Ideal Cert.Kernel3Ideal.Gen

/-- The scores with the bias added. -/
def LOGIT (s : FVec Ideal S768x256 .f32) (b : Vec Ideal S1x768x256 .f32) : FVec Ideal S768x256 .f32 :=
  addf s (mulf (shapeCast S768x256 b shapeCasts_S1x768x256_S768x256) (broadcast S768x256 (Named.named (F := Ideal) κ "log2e" 0x3FB8AA3B#32)))

/-- The same, with the keys before the sequence's start masked. -/
def MASKED (k : IVec S768x256 1) (s : FVec Ideal S768x256 .f32) (b : Vec Ideal S1x768x256 .f32) : FVec Ideal S768x256 .f32 :=
  select k (LOGIT s b) (broadcast S768x256 (Named.named (F := Ideal) κ "mask" 0xF149F2CA#32))

/-- The powers of two of the scores. -/
def POW (x : FVec Ideal S768x256 .f32) : FVec Ideal S768x256 .f32 :=
  exp2 (subf x (broadcastTo S768x256 (shapeCast S1x256 (multiReduction .maximumf [0] S256 x 0xFF800000#32 reduces_S768x256_S256 (.inl rfl) rfl) shapeCasts_S256_S1x256) broadcasts_S1x256_S768x256))

/-- The weights. -/
def PROBS (x : FVec Ideal S768x256 .f32) : FVec Ideal S768x256 .bf16 :=
  truncf .bf16 (mulf (POW x) (broadcastTo S768x256 (divf (broadcast S1x256 (Scalar.ofBits (F := Ideal) .f32 0x3F800000#32)) (shapeCast S1x256 (multiReduction .add [0] S256 (POW x) 0x00000000#32 reduces_S768x256_S256 (.inl rfl) rfl) shapeCasts_S256_S1x256)) broadcasts_S1x256_S768x256)) bitsLt_bf16_f32

/-- The four heads' weighted values side by side. -/
def OUT (v : FVec Ideal S256x768 .bf16) (p0 p1 p2 p3 : FVec Ideal S768x256 .bf16) : FVec Ideal S256x256 .bf16 :=
  truncf .bf16 (transpose S256x256 [1, 0] (concatenate S256x256 0
    [⟨S64x256, matmul dot_S64x768_S768x256_S64x256_1_0_0_1_n_n none (extractStridedSlice S64x768 ![0, 0] v slices_S256x768_o0_0_S64x768) p0 (constant S64x256 .f32 0x00000000#32)⟩,
     ⟨S64x256, matmul dot_S64x768_S768x256_S64x256_1_0_0_1_n_n none (extractStridedSlice S64x768 ![64, 0] v slices_S256x768_o64_0_S64x768) p1 (constant S64x256 .f32 0x00000000#32)⟩,
     ⟨S64x256, matmul dot_S64x768_S768x256_S64x256_1_0_0_1_n_n none (extractStridedSlice S64x768 ![128, 0] v slices_S256x768_o128_0_S64x768) p2 (constant S64x256 .f32 0x00000000#32)⟩,
     ⟨S64x256, matmul dot_S64x768_S768x256_S64x256_1_0_0_1_n_n none (extractStridedSlice S64x768 ![192, 0] v slices_S256x768_o192_0_S64x768) p3 (constant S64x256 .f32 0x00000000#32)⟩]
    concatenates_S64x256_S64x256_S64x256_S64x256_S256x256_d0 : FVec Ideal S256x256 .f32) transposes_S256x256_p1_0_S256x256) bitsLt_bf16_f32

/-- The second tile's values. -/
def VAL1 (v : FVec Ideal S256x1024 .bf16) : FVec Ideal S256x768 .bf16 :=
  extractStridedSlice S256x768 ![0, 256] v slices_S256x1024_o0_256_S256x768

section
variable (x1 x2 x3 x4 : Vec Ideal S256x256 .bf16) (x5 x6 x7 x8 q : Vec Ideal S1x256x256 .bf16) (w : BitVec 32) (b0 b1 b2 b3 : Vec Ideal S1x768x256 .f32)

/-- The first tile at a sequence's first point. -/
theorem first0 : k0_pay3 (F := Ideal) (k0_pay20 (F := Ideal) (k0_pay9 (F := Ideal) (k0_pay1 (F := Ideal) x1 x2 x3 x4) q) w b0) (k0_pay23 (F := Ideal) (k0_pay21 (F := Ideal) (k0_pay10 (F := Ideal) (k0_pay1 (F := Ideal) x1 x2 x3 x4) q) w b1) (k0_pay22 (F := Ideal) (k0_pay10 (F := Ideal) (k0_pay1 (F := Ideal) x1 x2 x3 x4) q) w b1)) (k0_pay24 (F := Ideal) (k0_pay11 (F := Ideal) (k0_pay1 (F := Ideal) x1 x2 x3 x4) q) (k0_pay19 w) b2) (k0_pay25 (F := Ideal) (k0_pay12 (F := Ideal) (k0_pay1 (F := Ideal) x1 x2 x3 x4) q) (k0_pay19 w) b3) (k0_pay34 (F := Ideal) (k0_pay2 (F := Ideal) x5 x6 x7 x8)) (k0_pay35 (F := Ideal) (k0_pay2 (F := Ideal) x5 x6 x7 x8))
    = OUT (k0_pay34 (F := Ideal) (k0_pay2 (F := Ideal) x5 x6 x7 x8)) (PROBS (MASKED (k0_pay19 w) (k0_pay9 (F := Ideal) (k0_pay1 (F := Ideal) x1 x2 x3 x4) q) b0)) (PROBS (MASKED (k0_pay19 w) (k0_pay10 (F := Ideal) (k0_pay1 (F := Ideal) x1 x2 x3 x4) q) b1)) (PROBS (MASKED (k0_pay19 w) (k0_pay11 (F := Ideal) (k0_pay1 (F := Ideal) x1 x2 x3 x4) q) b2)) (PROBS (MASKED (k0_pay19 w) (k0_pay12 (F := Ideal) (k0_pay1 (F := Ideal) x1 x2 x3 x4) q) b3)) := rfl

/-- The second tile there. -/
theorem first1 : k0_pay4 (F := Ideal) x5 x6 x7 x8 (k0_pay27 (F := Ideal) (k0_pay15 (F := Ideal) (k0_pay1 (F := Ideal) x1 x2 x3 x4) q) w b0) (k0_pay31 (F := Ideal) (k0_pay28 (F := Ideal) (k0_pay16 (F := Ideal) (k0_pay1 (F := Ideal) x1 x2 x3 x4) q) w b1) (k0_pay29 (F := Ideal) (k0_pay16 (F := Ideal) (k0_pay1 (F := Ideal) x1 x2 x3 x4) q) w b1) (k0_pay30 (F := Ideal))) (k0_pay32 (F := Ideal) (k0_pay17 (F := Ideal) (k0_pay1 (F := Ideal) x1 x2 x3 x4) q) (k0_pay26 w) b2) (k0_pay33 (F := Ideal) (k0_pay18 (F := Ideal) (k0_pay1 (F := Ideal) x1 x2 x3 x4) q) (k0_pay26 w) b3)
    = OUT (VAL1 (k0_pay2 (F := Ideal) x5 x6 x7 x8)) (PROBS (MASKED (k0_pay26 w) (k0_pay15 (F := Ideal) (k0_pay1 (F := Ideal) x1 x2 x3 x4) q) b0)) (PROBS (MASKED (k0_pay26 w) (k0_pay16 (F := Ideal) (k0_pay1 (F := Ideal) x1 x2 x3 x4) q) b1)) (PROBS (MASKED (k0_pay26 w) (k0_pay17 (F := Ideal) (k0_pay1 (F := Ideal) x1 x2 x3 x4) q) b2)) (PROBS (MASKED (k0_pay26 w) (k0_pay18 (F := Ideal) (k0_pay1 (F := Ideal) x1 x2 x3 x4) q) b3)) := rfl

/-- The first tile at any other point. -/
theorem late0 : k0_pay5 (F := Ideal) x5 x6 x7 x8 (k0_pay49 (F := Ideal) (k0_pay38 (F := Ideal) (k0_pay1 (F := Ideal) x1 x2 x3 x4) q) (k0_pay48 (F := Ideal) b0) (Named.named (F := Ideal) κ "log2e" 0x3FB8AA3B#32)) (k0_pay50 (F := Ideal) (k0_pay39 (F := Ideal) (k0_pay1 (F := Ideal) x1 x2 x3 x4) q) b1) (k0_pay53 (F := Ideal) (k0_pay51 (F := Ideal) (k0_pay40 (F := Ideal) (k0_pay1 (F := Ideal) x1 x2 x3 x4) q) b2) (k0_pay52 (F := Ideal) (k0_pay40 (F := Ideal) (k0_pay1 (F := Ideal) x1 x2 x3 x4) q) b2)) (k0_pay54 (F := Ideal) (k0_pay41 (F := Ideal) (k0_pay1 (F := Ideal) x1 x2 x3 x4) q) b3)
    = OUT (k0_pay34 (F := Ideal) (k0_pay2 (F := Ideal) x5 x6 x7 x8)) (PROBS (LOGIT (k0_pay38 (F := Ideal) (k0_pay1 (F := Ideal) x1 x2 x3 x4) q) b0)) (PROBS (LOGIT (k0_pay39 (F := Ideal) (k0_pay1 (F := Ideal) x1 x2 x3 x4) q) b1)) (PROBS (LOGIT (k0_pay40 (F := Ideal) (k0_pay1 (F := Ideal) x1 x2 x3 x4) q) b2)) (PROBS (LOGIT (k0_pay41 (F := Ideal) (k0_pay1 (F := Ideal) x1 x2 x3 x4) q) b3)) := rfl

/-- The second tile there. -/
theorem late1 : k0_pay6 (F := Ideal) x5 x6 x7 x8 (k0_pay55 (F := Ideal) (k0_pay44 (F := Ideal) (k0_pay1 (F := Ideal) x1 x2 x3 x4) q) b0) (k0_pay57 (F := Ideal) (k0_pay45 (F := Ideal) (k0_pay1 (F := Ideal) x1 x2 x3 x4) q) (k0_pay56 (F := Ideal) b1) (Named.named (F := Ideal) κ "log2e" 0x3FB8AA3B#32)) (k0_pay58 (F := Ideal) (k0_pay46 (F := Ideal) (k0_pay1 (F := Ideal) x1 x2 x3 x4) q) b2) (k0_pay59 (F := Ideal) (k0_pay47 (F := Ideal) (k0_pay1 (F := Ideal) x1 x2 x3 x4) q) b3) (k0_pay60 (F := Ideal) (k0_pay47 (F := Ideal) (k0_pay1 (F := Ideal) x1 x2 x3 x4) q) b3)
    = OUT (VAL1 (k0_pay2 (F := Ideal) x5 x6 x7 x8)) (PROBS (LOGIT (k0_pay44 (F := Ideal) (k0_pay1 (F := Ideal) x1 x2 x3 x4) q) b0)) (PROBS (LOGIT (k0_pay45 (F := Ideal) (k0_pay1 (F := Ideal) x1 x2 x3 x4) q) b1)) (PROBS (LOGIT (k0_pay46 (F := Ideal) (k0_pay1 (F := Ideal) x1 x2 x3 x4) q) b2)) (PROBS (LOGIT (k0_pay47 (F := Ideal) (k0_pay1 (F := Ideal) x1 x2 x3 x4) q) b3)) := rfl

end

/-- The constant of the base-two exponential. -/
theorem log2e_eq : Named.named (F := Ideal) (φ := .f32) κ "log2e" 0x3FB8AA3B#32 = (Softmax.L : EReal) := rfl
/-- The mask is `-∞`. -/
theorem mask_eq : Named.named (F := Ideal) (φ := .f32) κ "mask" 0xF149F2CA#32 = (⊥ : EReal) := rfl
/-- The queries' scale. -/
def QS : ℝ := (Real.sqrt 64)⁻¹ * (Real.log 2)⁻¹
/-- The constant named for it. -/
theorem qscale_eq : Named.named (F := Ideal) (φ := .f32) κ "qscale" 0x3E38AA3B#32 = (QS : EReal) := rfl
/-- The maximum starts at `-∞`. -/
theorem ofBits_bot : Ideal.ofBits .f32 4286578688#32 = ⊥ := Cert.Reference3Ideal.Value.ofBits_bot

/-- A score with its bias, in base two. -/
theorem logit_at (s : FVec Ideal S768x256 .f32) (b : Vec Ideal S1x768x256 .f32) (j : Fin 768) (r : Fin 256) :
    LOGIT s b (ix2 j r) = s (ix2 j r) + b (ix3 (0 : Fin 1) j r) * (Softmax.L : EReal) := by
  pointwise [LOGIT]
  rw [log2e_eq]

/-- The same, where keys before the sequence's start are masked. -/
theorem masked_at (k : IVec S768x256 1) (s : FVec Ideal S768x256 .f32) (b : Vec Ideal S1x768x256 .f32) (j : Fin 768) (r : Fin 256) :
    MASKED k s b (ix2 j r) = Scalar.select (k (ix2 j r)) (s (ix2 j r) + b (ix3 (0 : Fin 1) j r) * (Softmax.L : EReal)) ⊥ := by
  pointwise [MASKED]
  rw [logit_at, mask_eq]

/-- A weight. -/
theorem probs_at (x : FVec Ideal S768x256 .f32) (j : Fin 768) (r : Fin 256) :
    PROBS x (ix2 j r) = Ideal.exp2 (x (ix2 j r) - Finset.univ.fold max ⊥ (fun l => x (ix2 l r)))
      * Ideal.div 1 (∑ l, Ideal.exp2 (x (ix2 l r) - Finset.univ.fold max ⊥ (fun l => x (ix2 l r)))) := by
  pointwise [PROBS, POW]
  rw [ofBits_bot]
  rfl

/-- A tile's output: for row `r` and head `h`, the mean of the values weighted by powers of two of the scores. -/
theorem out_at (v : FVec Ideal S256x768 .bf16) (x0 x1 x2 x3 : FVec Ideal S768x256 .f32) (r : Fin 256) (h : Fin 4) (d : Fin 64) :
    OUT v (PROBS x0) (PROBS x1) (PROBS x2) (PROBS x3) (ix2 r ⟨h.val * 64 + d.val, by omega⟩)
      = Softmax.mean2 (fun j => (![x0, x1, x2, x3] h) (ix2 j r)) (fun j => v (ix2 (⟨h.val * 64 + d.val, by omega⟩ : Fin 256) j)) := by
  pointwise [OUT]
  unfold Softmax.mean2
  fin_cases h
  · rw [dif_pos (by simp)]
    refine Finset.sum_congr rfl fun j _ => ?_
    rw [probs_at]; rfl
  · rw [dif_neg (by simp), dif_pos (by simp)]
    refine Finset.sum_congr rfl fun j _ => ?_
    rw [probs_at]
    refine congrArg (· * _) (congrArg v (congrArg (ix2 · j) (Fin.ext ?_)))
    simp
  · rw [dif_neg (by simp; omega), dif_neg (by simp; omega), dif_pos (by simp; omega)]
    refine Finset.sum_congr rfl fun j _ => ?_
    rw [probs_at]
    refine congrArg (· * _) (congrArg v (congrArg (ix2 · j) (Fin.ext ?_)))
    simp; omega
  · rw [dif_neg (by simp; omega), dif_neg (by simp; omega), dif_neg (by simp; omega)]
    refine Finset.sum_congr rfl fun j _ => ?_
    rw [probs_at]
    refine congrArg (· * _) (congrArg v (congrArg (ix2 · j) (Fin.ext ?_)))
    simp; omega

/-- The product of a key row with a query column of a head, the query scaled. -/
def DOT (k : FVec Ideal S1024x256 .bf16) (q : Vec Ideal S1x256x256 .bf16) (o : ℕ) (ho : o ≤ 256) (h : Fin 4) (j : Fin 768) (r : Fin 256) : EReal :=
  ∑ x : Fin 64, k (ix2 (⟨o + j.val, by omega⟩ : Fin 1024) (⟨h.val * 64 + x.val, by omega⟩ : Fin 256))
    * (q (ix3 (0 : Fin 1) (⟨h.val * 64 + x.val, by omega⟩ : Fin 256) r) * (QS : EReal))

section
variable (k : FVec Ideal S1024x256 .bf16) (q : Vec Ideal S1x256x256 .bf16) (h : Fin 4) (j : Fin 768) (r : Fin 256)

/-- The scores of the first tile at a sequence's first point. -/
theorem sc_first0 : (![k0_pay9 (F := Ideal) k q, k0_pay10 (F := Ideal) k q, k0_pay11 (F := Ideal) k q, k0_pay12 (F := Ideal) k q] h) (ix2 j r) = DOT k q 0 (by omega) h j r := by
  unfold DOT
  fin_cases h
  · show k0_pay9 (F := Ideal) k q (ix2 j r) = _
    pointwise [k0_pay9, k0_pay7, k0_pay8]
    rw [qscale_eq]
  · show k0_pay10 (F := Ideal) k q (ix2 j r) = _
    pointwise [k0_pay10, k0_pay7, k0_pay8]
    rw [qscale_eq]
  · show k0_pay11 (F := Ideal) k q (ix2 j r) = _
    pointwise [k0_pay11, k0_pay7, k0_pay8]
    rw [qscale_eq]
  · show k0_pay12 (F := Ideal) k q (ix2 j r) = _
    pointwise [k0_pay12, k0_pay7, k0_pay8]
    rw [qscale_eq]

/-- Those of the second tile there. -/
theorem sc_first1 : (![k0_pay15 (F := Ideal) k q, k0_pay16 (F := Ideal) k q, k0_pay17 (F := Ideal) k q, k0_pay18 (F := Ideal) k q] h) (ix2 j r) = DOT k q 256 (by omega) h j r := by
  unfold DOT
  fin_cases h
  · show k0_pay15 (F := Ideal) k q (ix2 j r) = _
    pointwise [k0_pay15, k0_pay13, k0_pay14]
    rw [qscale_eq]
  · show k0_pay16 (F := Ideal) k q (ix2 j r) = _
    pointwise [k0_pay16, k0_pay13, k0_pay14]
    rw [qscale_eq]
  · show k0_pay17 (F := Ideal) k q (ix2 j r) = _
    pointwise [k0_pay17, k0_pay13, k0_pay14]
    rw [qscale_eq]
  · show k0_pay18 (F := Ideal) k q (ix2 j r) = _
    pointwise [k0_pay18, k0_pay13, k0_pay14]
    rw [qscale_eq]

/-- Those of the first tile at any other point. -/
theorem sc_late0 : (![k0_pay38 (F := Ideal) k q, k0_pay39 (F := Ideal) k q, k0_pay40 (F := Ideal) k q, k0_pay41 (F := Ideal) k q] h) (ix2 j r) = DOT k q 0 (by omega) h j r := by
  unfold DOT
  fin_cases h
  · show k0_pay38 (F := Ideal) k q (ix2 j r) = _
    pointwise [k0_pay38, k0_pay36, k0_pay37]
    rw [qscale_eq]
  · show k0_pay39 (F := Ideal) k q (ix2 j r) = _
    pointwise [k0_pay39, k0_pay36, k0_pay37]
    rw [qscale_eq]
  · show k0_pay40 (F := Ideal) k q (ix2 j r) = _
    pointwise [k0_pay40, k0_pay36, k0_pay37]
    rw [qscale_eq]
  · show k0_pay41 (F := Ideal) k q (ix2 j r) = _
    pointwise [k0_pay41, k0_pay36, k0_pay37]
    rw [qscale_eq]

/-- Those of the second tile there. -/
theorem sc_late1 : (![k0_pay44 (F := Ideal) k q, k0_pay45 (F := Ideal) k q, k0_pay46 (F := Ideal) k q, k0_pay47 (F := Ideal) k q] h) (ix2 j r) = DOT k q 256 (by omega) h j r := by
  unfold DOT
  fin_cases h
  · show k0_pay44 (F := Ideal) k q (ix2 j r) = _
    pointwise [k0_pay44, k0_pay42, k0_pay43]
    rw [qscale_eq]
  · show k0_pay45 (F := Ideal) k q (ix2 j r) = _
    pointwise [k0_pay45, k0_pay42, k0_pay43]
    rw [qscale_eq]
  · show k0_pay46 (F := Ideal) k q (ix2 j r) = _
    pointwise [k0_pay46, k0_pay42, k0_pay43]
    rw [qscale_eq]
  · show k0_pay47 (F := Ideal) k q (ix2 j r) = _
    pointwise [k0_pay47, k0_pay42, k0_pay43]
    rw [qscale_eq]
end

/-- A row of the four key blocks. -/
theorem keys_at (x1 x2 x3 x4 : Vec Ideal S256x256 .bf16) (l : Fin 1024) (c : Fin 256) :
    k0_pay1 (F := Ideal) x1 x2 x3 x4 (ix2 l c) = (![x1, x2, x3, x4] ⟨l.val / 256, by omega⟩) (ix2 (⟨l.val % 256, by omega⟩ : Fin 256) c) := by
  pointwise [k0_pay1]
  obtain ⟨w, e, hl⟩ : ∃ (w : Fin 4) (e : Fin 256), l.val = 256 * w.val + e.val :=
    ⟨⟨l.val / 256, by omega⟩, ⟨l.val % 256, by omega⟩, by show l.val = 256 * (l.val / 256) + l.val % 256; omega⟩
  rw [show (⟨l.val / 256, by omega⟩ : Fin 4) = w from Fin.ext (by show l.val / 256 = w.val; omega),
    show (⟨l.val % 256, by omega⟩ : Fin 256) = e from Fin.ext (by show l.val % 256 = e.val; omega)]
  fin_cases w <;> simp only at hl <;> norm_num at hl
  · rw [dif_pos (by omega)]; exact congrArg (fun t => x1 (ix2 t c)) (Fin.ext (by show l.val = e.val; omega))
  · rw [dif_neg (by omega), dif_pos (by omega)]; exact congrArg (fun t => x2 (ix2 t c)) (Fin.ext (by show l.val - 256 = e.val; omega))
  · rw [dif_neg (by omega), dif_neg (by omega), dif_pos (by omega)]; exact congrArg (fun t => x3 (ix2 t c)) (Fin.ext (by show l.val - 256 - 256 = e.val; omega))
  · rw [dif_neg (by omega), dif_neg (by omega), dif_neg (by omega)]; exact congrArg (fun t => x4 (ix2 t c)) (Fin.ext (by show l.val - 256 - 256 - 256 = e.val; omega))

/-- A row of the four value blocks. -/
theorem vals_at (x5 x6 x7 x8 : Vec Ideal S1x256x256 .bf16) (l : Fin 1024) (c : Fin 256) :
    k0_pay2 (F := Ideal) x5 x6 x7 x8 (ix2 c l) = (![x5, x6, x7, x8] ⟨l.val / 256, by omega⟩) (ix3 (0 : Fin 1) c (⟨l.val % 256, by omega⟩ : Fin 256)) := by
  pointwise [k0_pay2]
  obtain ⟨w, e, hl⟩ : ∃ (w : Fin 4) (e : Fin 256), l.val = 256 * w.val + e.val :=
    ⟨⟨l.val / 256, by omega⟩, ⟨l.val % 256, by omega⟩, by show l.val = 256 * (l.val / 256) + l.val % 256; omega⟩
  rw [show (⟨l.val / 256, by omega⟩ : Fin 4) = w from Fin.ext (by show l.val / 256 = w.val; omega),
    show (⟨l.val % 256, by omega⟩ : Fin 256) = e from Fin.ext (by show l.val % 256 = e.val; omega)]
  fin_cases w <;> simp only at hl <;> norm_num at hl
  · rw [dif_pos (by omega)]; exact congrArg (fun t => x5 (ix3 0 c t)) (Fin.ext (by show l.val = e.val; omega))
  · rw [dif_neg (by omega), dif_pos (by omega)]; exact congrArg (fun t => x6 (ix3 0 c t)) (Fin.ext (by show l.val - 256 = e.val; omega))
  · rw [dif_neg (by omega), dif_neg (by omega), dif_pos (by omega)]; exact congrArg (fun t => x7 (ix3 0 c t)) (Fin.ext (by show l.val - 256 - 256 = e.val; omega))
  · rw [dif_neg (by omega), dif_neg (by omega), dif_neg (by omega)]; exact congrArg (fun t => x8 (ix3 0 c t)) (Fin.ext (by show l.val - 256 - 256 - 256 = e.val; omega))

/-- The value rows of the first tile. -/
theorem val0_at (v : FVec Ideal S256x1024 .bf16) (c : Fin 256) (j : Fin 768) :
    k0_pay34 (F := Ideal) v (ix2 c j) = v (ix2 c (⟨0 + j.val, by omega⟩ : Fin 1024)) := by
  pointwise [k0_pay34]

/-- The value rows of the second tile. -/
theorem val1_at (v : FVec Ideal S256x1024 .bf16) (c : Fin 256) (j : Fin 768) :
    VAL1 v (ix2 c j) = v (ix2 c (⟨256 + j.val, by omega⟩ : Fin 1024)) := by
  pointwise [VAL1]

/-- The keys of the first tile that lie before the sequence's start, at its first point. -/
theorem mask0_at (j : Fin 768) (r : Fin 256) : k0_pay19 0#32 (ix2 j r) = if 512 ≤ j.val then 1#1 else 0#1 := by
  pointwise [k0_pay19]
  revert j
  decide +kernel

/-- The keys of the second tile that do. -/
theorem mask1_at (j : Fin 768) (r : Fin 256) : k0_pay26 1#32 (ix2 j r) = if 256 ≤ j.val then 1#1 else 0#1 := by
  pointwise [k0_pay26]
  revert j
  decide +kernel

end Cert.Kernel3Ideal.Attn
end
-- ==== Proof.AttnCore.lean ====
module

public import proofs.«01_k».proof.Proof.AttnPay

/-!
# One query of the chunk attention

The kernel takes a tile's queries against 768 keys at once.  Of these a query's chunk sees the 576 that start at
its own chunk; the others carry the bias `-∞`, so that they have weight zero.  The scores are in base two.  Hence the
kernel's weighted mean is the reference's mean over the band.
-/

@[expose] public section

set_option maxRecDepth 16384
noncomputable section
open Idealize.ShloMosaic Idealize.ShloMosaic.TcCoe Idealize.SL.Sem

namespace Cert.Kernel3Ideal.Attn
open Cert.Kernel3Ideal Cert.Kernel3Ideal.Gen
open Cert.Reference3Ideal.Value (score band)

/-- A head's channel is one of the 256. -/
theorem col_lt (h : Fin 4) (d : Fin 64) : h.val * 64 + d.val < 256 := by omega

/-- A clipped distance is one of the 257. -/
theorem gap_lt (r j : ℕ) : min 256 (640 + r - j) < 257 := by omega

/-- A positive real factor goes over a sum of two. -/
theorem pos_add {c : ℝ} (hc : 0 < c) (a b : EReal) : (c : EReal) * a + c * b = c * (a + b) := by
  have ht : (c : EReal) * ⊤ = ⊤ := EReal.coe_mul_top_of_pos hc
  have hb : (c : EReal) * ⊥ = ⊥ := EReal.coe_mul_bot_of_pos hc
  induction a <;> induction b
  all_goals simp only [ht, hb, EReal.bot_add, EReal.add_bot, ← EReal.coe_mul, ← EReal.coe_add, EReal.top_add_coe,
    EReal.coe_add_top, EReal.top_add_top, mul_add]

/-- A positive real factor goes over a sum. -/
theorem pos_sum {c : ℝ} (hc : 0 < c) {n : ℕ} (f : Fin n → EReal) : ∑ x, (c : EReal) * f x = c * ∑ x, f x := by
  classical
  induction (Finset.univ : Finset (Fin n)) using Finset.induction_on with
  | empty => rw [Finset.sum_empty, Finset.sum_empty, mul_zero]
  | insert a s ha ih => rw [Finset.sum_insert ha, Finset.sum_insert ha, ih, pos_add hc]

theorem qs_eq : QS = Softmax.L * 0.125 := by
  unfold QS Softmax.L
  rw [show (64 : ℝ) = 8 ^ 2 by norm_num, Real.sqrt_sq (by norm_num)]
  ring

theorem qs_pos : 0 < QS := by rw [qs_eq]; exact mul_pos Softmax.L_pos (by norm_num)

/-- A scaled score: the queries' scale holds the reference's one eighth and the change of base. -/
theorem scaled (p s : Fin 64 → EReal) (b : EReal) :
    (∑ x, s x * (p x * (QS : EReal))) + b * (Softmax.L : EReal) = (Softmax.L : EReal) * ((∑ x, p x * s x) * ((0.125 : ℝ) : EReal) + b) := by
  have h : ∀ x, s x * (p x * (QS : EReal)) = (QS : EReal) * (p x * s x) := fun x => by
    rw [mul_left_comm, mul_comm, mul_assoc, mul_comm, mul_assoc]
  rw [Finset.sum_congr rfl fun x _ => h x, pos_sum qs_pos, ← Softmax.L_add, mul_comm b]
  refine congrArg (· + _) ?_
  rw [qs_eq, EReal.coe_mul, mul_assoc, mul_comm ((0.125 : ℝ) : EReal)]

/-- The place of key `j` of chunk `a`'s band among the tile's keys. -/
def place (a : Fin 4) (j : Fin 576) : Fin 768 := ⟨64 * a.val + j.val, by omega⟩

theorem place_inj (a : Fin 4) : Function.Injective (place a) := fun i j h => Fin.ext (by have := congrArg Fin.val h; simp only [place] at this; omega)

/-- The kernel's mean for one query is the reference's. -/
theorem one (q k v : FVec Ideal S2x16384x256 .f32) (rel : FVec Ideal S4x257 .f32) (n : Fin 2) (b : Fin 256) (a : Fin 4) (i : Fin 64) (h : Fin 4) (c : Fin 256)
    (K : Fin 768 → Fin 64 → EReal) (Q : Fin 64 → EReal) (B W : Fin 768 → EReal) (M : Fin 768 → Prop) [DecidablePred M]
    (hQ : ∀ x : Fin 64, Q x = q (ix3 n ⟨b.val * 64 + i.val, by omega⟩ ⟨h.val * 64 + x.val, by omega⟩))
    (hK : ∀ (j : Fin 576) (x : Fin 64) (g : 512 ≤ 64 * b.val + j.val), K (place a j) x = k (ix3 n ⟨64 * b.val + j.val - 512, by omega⟩ ⟨h.val * 64 + x.val, by omega⟩))
    (hW : ∀ (j : Fin 576) (g : 512 ≤ 64 * b.val + j.val), W (place a j) = v (ix3 n ⟨64 * b.val + j.val - 512, by omega⟩ c))
    (hB : ∀ j : Fin 768, B j = if a.val ≤ j.val / 64 ∧ j.val / 64 ≤ a.val + 8 then rel (ix2 h ⟨min 256 (640 + (64 * a.val + i.val) - j.val), by omega⟩) else ⊥)
    (hM : ∀ j : Fin 576, M (place a j) ↔ 512 ≤ 64 * b.val + j.val) :
    Softmax.mean2 (fun j => if M j then (∑ x, K j x * (Q x * (QS : EReal))) + B j * (Softmax.L : EReal) else ⊥) W
      = Softmax.mean (score q k rel n h b i) (band v n b c) := by
  refine Softmax.mean2_eq (place a) (place_inj a) _ _ _ _ (fun j => ?_) (fun l hl => ?_) (fun j => ?_)
  · unfold score
    by_cases g : 512 ≤ 64 * b.val + j.val
    · rw [dif_pos g, if_pos ((hM j).mpr g)]
      rw [scaled, hB]
      rw [if_pos (by simp only [place]; omega)]
      refine congrArg _ (congrArg₂ (· + ·) (congrArg (· * _) (Finset.sum_congr rfl fun x _ => ?_)) (congrArg rel (congrArg (ix2 h) (Fin.ext ?_))))
      · rw [hQ, hK j x g]
      · simp only [place]; omega
    · rw [dif_neg g, if_neg (fun e => g ((hM j).mp e)), Softmax.L_bot]
  · have : ¬(a.val ≤ l.val / 64 ∧ l.val / 64 ≤ a.val + 8) := fun ⟨g, g'⟩ =>
      hl ⟨l.val - 64 * a.val, by omega⟩ (Fin.ext (by simp only [place]; omega))
    rw [hB, if_neg this, mul_comm, Softmax.L_bot, EReal.add_bot, ite_self]
  · by_cases g : 512 ≤ 64 * b.val + j.val
    · right; rw [hW j g]; unfold band; rw [dif_pos g]
    · left; unfold score; rw [dif_neg g]

section
variable (q k v : FVec Ideal S2x16384x256 .f32) (rel : FVec Ideal S4x257 .f32) (n : Fin 2) (p : ℕ)
  (x1 x2 x3 x4 : Vec Ideal S256x256 .bf16) (x5 x6 x7 x8 y : Vec Ideal S1x256x256 .bf16) (b0 b1 b2 b3 : Vec Ideal S1x768x256 .f32)
  (hk : ∀ (l : Fin 1024) (c : Fin 256) (i : Fin 16384), i.val + 512 = p * 512 + l.val → k0_pay1 (F := Ideal) x1 x2 x3 x4 (ix2 l c) = k (ix3 n i c))
  (hv : ∀ (l : Fin 1024) (c : Fin 256) (i : Fin 16384), i.val + 512 = p * 512 + l.val → k0_pay2 (F := Ideal) x5 x6 x7 x8 (ix2 c l) = v (ix3 n i c))
  (hb : ∀ (h : Fin 4) (j : Fin 768) (r : Fin 256), (![b0, b1, b2, b3] h) (ix3 (0 : Fin 1) j r)
    = if r.val / 64 ≤ j.val / 64 ∧ j.val / 64 ≤ r.val / 64 + 8 then rel (ix2 h ⟨min 256 (640 + r.val - j.val), gap_lt r.val j.val⟩) else ⊥)
  (r : Fin 256) (h : Fin 4) (d : Fin 64) (b : Fin 256) (i : Fin 64) (hi : i.val = r.val % 64)
include hk hv hb hi

/-- The mean for a query of tile `s` of point `p`, given what the windows hold. -/
theorem tile (s : ℕ) (hs : s < 2) (hq : ∀ (d r : Fin 256) (i : Fin 16384), i.val = p * 512 + s * 256 + r.val → y (ix3 (0 : Fin 1) d r) = q (ix3 n i d))
    (hbv : b.val = p * 8 + s * 4 + r.val / 64) (M : Fin 768 → Prop) [DecidablePred M]
    (hM : ∀ j : Fin 576, M (place ⟨r.val / 64, by omega⟩ j) ↔ 512 ≤ 64 * b.val + j.val) :
    Softmax.mean2 (fun j => if M j then DOT (k0_pay1 (F := Ideal) x1 x2 x3 x4) y (s * 256) (by omega) h j r + (![b0, b1, b2, b3] h) (ix3 (0 : Fin 1) j r) * (Softmax.L : EReal) else ⊥)
        (fun j => k0_pay2 (F := Ideal) x5 x6 x7 x8 (ix2 (⟨h.val * 64 + d.val, col_lt h d⟩ : Fin 256) (⟨s * 256 + j.val, by omega⟩ : Fin 1024)))
      = Softmax.mean (score q k rel n h b i) (band v n b ⟨h.val * 64 + d.val, col_lt h d⟩) := by
  unfold DOT
  refine one q k v rel n b ⟨r.val / 64, by omega⟩ i h _ (fun j x => k0_pay1 (F := Ideal) x1 x2 x3 x4 (ix2 ⟨s * 256 + j.val, by omega⟩ ⟨h.val * 64 + x.val, by omega⟩)) (fun x => y (ix3 (0 : Fin 1) (⟨h.val * 64 + x.val, by omega⟩ : Fin 256) r)) _ _ M
    (fun x => ?_) (fun j x g => ?_) (fun j g => ?_) (fun j => ?_) hM
  · exact hq _ _ _ (by simp only; omega)
  · exact hk _ _ _ (by simp only [place]; omega)
  · exact hv _ _ _ (by simp only [place]; omega)
  · rw [hb]
    have : 64 * (r.val / 64) + i.val = r.val := by omega
    simp only [this]

/-- Tile 0 of a sequence's first point. -/
theorem first0_point (hp0 : p = 0) (hq : ∀ (d r : Fin 256) (i : Fin 16384), i.val = p * 512 + 0 * 256 + r.val → y (ix3 (0 : Fin 1) d r) = q (ix3 n i d))
    (hbv : b.val = p * 8 + 0 * 4 + r.val / 64) :
    k0_pay3 (F := Ideal) (k0_pay20 (F := Ideal) (k0_pay9 (F := Ideal) (k0_pay1 (F := Ideal) x1 x2 x3 x4) y) 0#32 b0) (k0_pay23 (F := Ideal) (k0_pay21 (F := Ideal) (k0_pay10 (F := Ideal) (k0_pay1 (F := Ideal) x1 x2 x3 x4) y) 0#32 b1) (k0_pay22 (F := Ideal) (k0_pay10 (F := Ideal) (k0_pay1 (F := Ideal) x1 x2 x3 x4) y) 0#32 b1)) (k0_pay24 (F := Ideal) (k0_pay11 (F := Ideal) (k0_pay1 (F := Ideal) x1 x2 x3 x4) y) (k0_pay19 0#32) b2) (k0_pay25 (F := Ideal) (k0_pay12 (F := Ideal) (k0_pay1 (F := Ideal) x1 x2 x3 x4) y) (k0_pay19 0#32) b3) (k0_pay34 (F := Ideal) (k0_pay2 (F := Ideal) x5 x6 x7 x8)) (k0_pay35 (F := Ideal) (k0_pay2 (F := Ideal) x5 x6 x7 x8)) (ix2 r ⟨h.val * 64 + d.val, col_lt h d⟩)
      = Softmax.mean (score q k rel n h b i) (band v n b ⟨h.val * 64 + d.val, col_lt h d⟩) := by
  rw [first0, out_at, ← tile q k v rel n p x1 x2 x3 x4 x5 x6 x7 x8 y b0 b1 b2 b3 hk hv hb r h d b i hi 0 (by omega) hq hbv (fun j => 512 ≤ j.val)
    (fun j => by simp only [place]; omega)]
  refine congrArg₂ Softmax.mean2 (funext fun j => ?_) (funext fun j => val0_at _ _ _)
  rw [show (![MASKED (k0_pay19 0#32) (k0_pay9 (F := Ideal) (k0_pay1 (F := Ideal) x1 x2 x3 x4) y) b0, MASKED (k0_pay19 0#32) (k0_pay10 (F := Ideal) (k0_pay1 (F := Ideal) x1 x2 x3 x4) y) b1, MASKED (k0_pay19 0#32) (k0_pay11 (F := Ideal) (k0_pay1 (F := Ideal) x1 x2 x3 x4) y) b2, MASKED (k0_pay19 0#32) (k0_pay12 (F := Ideal) (k0_pay1 (F := Ideal) x1 x2 x3 x4) y) b3] h)
      = MASKED (k0_pay19 0#32) (![k0_pay9 (F := Ideal) (k0_pay1 (F := Ideal) x1 x2 x3 x4) y, k0_pay10 (F := Ideal) (k0_pay1 (F := Ideal) x1 x2 x3 x4) y, k0_pay11 (F := Ideal) (k0_pay1 (F := Ideal) x1 x2 x3 x4) y, k0_pay12 (F := Ideal) (k0_pay1 (F := Ideal) x1 x2 x3 x4) y] h) (![b0, b1, b2, b3] h) from by fin_cases h <;> rfl]
  rw [masked_at, sc_first0, mask0_at]
  by_cases g : 512 ≤ j.val
  · rw [if_pos g, if_pos g]; rfl
  · rw [if_neg g, if_neg g]; rfl

/-- Tile 1 there. -/
theorem first1_point (hp0 : p = 0) (hq : ∀ (d r : Fin 256) (i : Fin 16384), i.val = p * 512 + 1 * 256 + r.val → y (ix3 (0 : Fin 1) d r) = q (ix3 n i d))
    (hbv : b.val = p * 8 + 1 * 4 + r.val / 64) :
    k0_pay4 (F := Ideal) x5 x6 x7 x8 (k0_pay27 (F := Ideal) (k0_pay15 (F := Ideal) (k0_pay1 (F := Ideal) x1 x2 x3 x4) y) 1#32 b0) (k0_pay31 (F := Ideal) (k0_pay28 (F := Ideal) (k0_pay16 (F := Ideal) (k0_pay1 (F := Ideal) x1 x2 x3 x4) y) 1#32 b1) (k0_pay29 (F := Ideal) (k0_pay16 (F := Ideal) (k0_pay1 (F := Ideal) x1 x2 x3 x4) y) 1#32 b1) (k0_pay30 (F := Ideal))) (k0_pay32 (F := Ideal) (k0_pay17 (F := Ideal) (k0_pay1 (F := Ideal) x1 x2 x3 x4) y) (k0_pay26 1#32) b2) (k0_pay33 (F := Ideal) (k0_pay18 (F := Ideal) (k0_pay1 (F := Ideal) x1 x2 x3 x4) y) (k0_pay26 1#32) b3) (ix2 r ⟨h.val * 64 + d.val, col_lt h d⟩)
      = Softmax.mean (score q k rel n h b i) (band v n b ⟨h.val * 64 + d.val, col_lt h d⟩) := by
  rw [first1, out_at, ← tile q k v rel n p x1 x2 x3 x4 x5 x6 x7 x8 y b0 b1 b2 b3 hk hv hb r h d b i hi 1 (by omega) hq hbv (fun j => 256 ≤ j.val)
    (fun j => by simp only [place]; omega)]
  refine congrArg₂ Softmax.mean2 (funext fun j => ?_) (funext fun j => val1_at _ _ _)
  rw [show (![MASKED (k0_pay26 1#32) (k0_pay15 (F := Ideal) (k0_pay1 (F := Ideal) x1 x2 x3 x4) y) b0, MASKED (k0_pay26 1#32) (k0_pay16 (F := Ideal) (k0_pay1 (F := Ideal) x1 x2 x3 x4) y) b1, MASKED (k0_pay26 1#32) (k0_pay17 (F := Ideal) (k0_pay1 (F := Ideal) x1 x2 x3 x4) y) b2, MASKED (k0_pay26 1#32) (k0_pay18 (F := Ideal) (k0_pay1 (F := Ideal) x1 x2 x3 x4) y) b3] h)
      = MASKED (k0_pay26 1#32) (![k0_pay15 (F := Ideal) (k0_pay1 (F := Ideal) x1 x2 x3 x4) y, k0_pay16 (F := Ideal) (k0_pay1 (F := Ideal) x1 x2 x3 x4) y, k0_pay17 (F := Ideal) (k0_pay1 (F := Ideal) x1 x2 x3 x4) y, k0_pay18 (F := Ideal) (k0_pay1 (F := Ideal) x1 x2 x3 x4) y] h) (![b0, b1, b2, b3] h) from by fin_cases h <;> rfl]
  rw [masked_at, sc_first1, mask1_at]
  by_cases g : 256 ≤ j.val
  · rw [if_pos g, if_pos g]; rfl
  · rw [if_neg g, if_neg g]; rfl

/-- Tile 0 of any other point. -/
theorem late0_point (hp0 : 1 ≤ p) (hq : ∀ (d r : Fin 256) (i : Fin 16384), i.val = p * 512 + 0 * 256 + r.val → y (ix3 (0 : Fin 1) d r) = q (ix3 n i d))
    (hbv : b.val = p * 8 + 0 * 4 + r.val / 64) :
    k0_pay5 (F := Ideal) x5 x6 x7 x8 (k0_pay49 (F := Ideal) (k0_pay38 (F := Ideal) (k0_pay1 (F := Ideal) x1 x2 x3 x4) y) (k0_pay48 (F := Ideal) b0) (Named.named (F := Ideal) κ "log2e" 0x3FB8AA3B#32)) (k0_pay50 (F := Ideal) (k0_pay39 (F := Ideal) (k0_pay1 (F := Ideal) x1 x2 x3 x4) y) b1) (k0_pay53 (F := Ideal) (k0_pay51 (F := Ideal) (k0_pay40 (F := Ideal) (k0_pay1 (F := Ideal) x1 x2 x3 x4) y) b2) (k0_pay52 (F := Ideal) (k0_pay40 (F := Ideal) (k0_pay1 (F := Ideal) x1 x2 x3 x4) y) b2)) (k0_pay54 (F := Ideal) (k0_pay41 (F := Ideal) (k0_pay1 (F := Ideal) x1 x2 x3 x4) y) b3) (ix2 r ⟨h.val * 64 + d.val, col_lt h d⟩)
      = Softmax.mean (score q k rel n h b i) (band v n b ⟨h.val * 64 + d.val, col_lt h d⟩) := by
  rw [late0, out_at, ← tile q k v rel n p x1 x2 x3 x4 x5 x6 x7 x8 y b0 b1 b2 b3 hk hv hb r h d b i hi 0 (by omega) hq hbv (fun _ => True)
    (fun j => ⟨fun _ => by omega, fun _ => trivial⟩)]
  refine congrArg₂ Softmax.mean2 (funext fun j => ?_) (funext fun j => val0_at _ _ _)
  rw [show (![LOGIT (k0_pay38 (F := Ideal) (k0_pay1 (F := Ideal) x1 x2 x3 x4) y) b0, LOGIT (k0_pay39 (F := Ideal) (k0_pay1 (F := Ideal) x1 x2 x3 x4) y) b1, LOGIT (k0_pay40 (F := Ideal) (k0_pay1 (F := Ideal) x1 x2 x3 x4) y) b2, LOGIT (k0_pay41 (F := Ideal) (k0_pay1 (F := Ideal) x1 x2 x3 x4) y) b3] h)
      = LOGIT (![k0_pay38 (F := Ideal) (k0_pay1 (F := Ideal) x1 x2 x3 x4) y, k0_pay39 (F := Ideal) (k0_pay1 (F := Ideal) x1 x2 x3 x4) y, k0_pay40 (F := Ideal) (k0_pay1 (F := Ideal) x1 x2 x3 x4) y, k0_pay41 (F := Ideal) (k0_pay1 (F := Ideal) x1 x2 x3 x4) y] h) (![b0, b1, b2, b3] h) from by fin_cases h <;> rfl]
  rw [logit_at, sc_late0, if_pos trivial]

/-- Tile 1 there. -/
theorem late1_point (hp0 : 1 ≤ p) (hq : ∀ (d r : Fin 256) (i : Fin 16384), i.val = p * 512 + 1 * 256 + r.val → y (ix3 (0 : Fin 1) d r) = q (ix3 n i d))
    (hbv : b.val = p * 8 + 1 * 4 + r.val / 64) :
    k0_pay6 (F := Ideal) x5 x6 x7 x8 (k0_pay55 (F := Ideal) (k0_pay44 (F := Ideal) (k0_pay1 (F := Ideal) x1 x2 x3 x4) y) b0) (k0_pay57 (F := Ideal) (k0_pay45 (F := Ideal) (k0_pay1 (F := Ideal) x1 x2 x3 x4) y) (k0_pay56 (F := Ideal) b1) (Named.named (F := Ideal) κ "log2e" 0x3FB8AA3B#32)) (k0_pay58 (F := Ideal) (k0_pay46 (F := Ideal) (k0_pay1 (F := Ideal) x1 x2 x3 x4) y) b2) (k0_pay59 (F := Ideal) (k0_pay47 (F := Ideal) (k0_pay1 (F := Ideal) x1 x2 x3 x4) y) b3) (k0_pay60 (F := Ideal) (k0_pay47 (F := Ideal) (k0_pay1 (F := Ideal) x1 x2 x3 x4) y) b3) (ix2 r ⟨h.val * 64 + d.val, col_lt h d⟩)
      = Softmax.mean (score q k rel n h b i) (band v n b ⟨h.val * 64 + d.val, col_lt h d⟩) := by
  rw [late1, out_at, ← tile q k v rel n p x1 x2 x3 x4 x5 x6 x7 x8 y b0 b1 b2 b3 hk hv hb r h d b i hi 1 (by omega) hq hbv (fun _ => True)
    (fun j => ⟨fun _ => by omega, fun _ => trivial⟩)]
  refine congrArg₂ Softmax.mean2 (funext fun j => ?_) (funext fun j => val1_at _ _ _)
  rw [show (![LOGIT (k0_pay44 (F := Ideal) (k0_pay1 (F := Ideal) x1 x2 x3 x4) y) b0, LOGIT (k0_pay45 (F := Ideal) (k0_pay1 (F := Ideal) x1 x2 x3 x4) y) b1, LOGIT (k0_pay46 (F := Ideal) (k0_pay1 (F := Ideal) x1 x2 x3 x4) y) b2, LOGIT (k0_pay47 (F := Ideal) (k0_pay1 (F := Ideal) x1 x2 x3 x4) y) b3] h)
      = LOGIT (![k0_pay44 (F := Ideal) (k0_pay1 (F := Ideal) x1 x2 x3 x4) y, k0_pay45 (F := Ideal) (k0_pay1 (F := Ideal) x1 x2 x3 x4) y, k0_pay46 (F := Ideal) (k0_pay1 (F := Ideal) x1 x2 x3 x4) y, k0_pay47 (F := Ideal) (k0_pay1 (F := Ideal) x1 x2 x3 x4) y] h) (![b0, b1, b2, b3] h) from by fin_cases h <;> rfl]
  rw [logit_at, sc_late1, if_pos trivial]

end

end Cert.Kernel3Ideal.Attn
end
-- ==== Proof.AttnFrameIdeal.lean ====
module

public import proofs.«01_k».proof.Proof.Gen.Kernel3Ideal.Frame.RunA
public import proofs.«01_k».proof.Proof.Gen.Kernel3Ideal.Frame.RunB
public import Idealize.ShloMosaic.Lib.Claim
public import Idealize.ShloMosaic.Lib.Pipeline.Value

/-!
# The run of the chunk attention, idealized

The grid has 64 points, 32 for each of the two sequences.  At the first point of a sequence the body masks
the keys before the sequence's start; at the other points it need not.  So what a point leaves in its output
block is one of two runs, chosen by the point's number.  No point reads what another wrote.
-/

@[expose] public section

set_option maxRecDepth 16384

noncomputable section

namespace Cert.Kernel3Ideal.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point that is not a sequence's first is past it. -/
theorem late {t : ℕ} (h : ¬t % 32 = 0) : 1 ≤ t % 32 := by omega

/-- A sequence's first point is not past it. -/
theorem first {t : ℕ} (h : t % 32 = 0) : ¬1 ≤ t % 32 := by omega

/-- The body's run at a sequence's first point. -/
abbrev runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (fun e => first h ((hcond0_1 t).mp e)) (iblk m c 0 t) (iblk m c 1 t) (iblk m c 2 t) (iblk m c 3 t) (iblk m c 4 t) (iblk m c 5 t) (iblk m c 6 t) (iblk m c 7 t) (iblk m c 8 t) (iblk m c 9 t)

/-- Its two stores cover the output block. -/
theorem coverA (c : Dev nD) (t : Fin cfg0.N) (h : t.val % 32 = 0) (y : S512x256.Idx) : ∃ pc ∈ (runA m c t h).1, y ∈ pc.1.set :=
  View.cover_of_tiledL (runA m c t h).1 S256x256.size (by sl_kernel_rfl) y

/-- What it leaves in the output block. -/
def outA (c : Dev nD) (t : Fin cfg0.N) (h : t.val % 32 = 0) : Vec F S512x256 .bf16 :=
  VO0_10.read (Elt F) (VO0_10.writes (Elt F) VO0_10.junk (runA m c t h).1)

/-- The body's run at any other point. -/
abbrev runB (c : Dev nD) (t : Fin cfg0.N) (h : ¬t.val % 32 = 0) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun e => h ((hcond0_0 t).mp e)) ((hcond0_1 t).mpr (late h)) (iblk m c 0 t) (iblk m c 1 t) (iblk m c 2 t) (iblk m c 3 t) (iblk m c 4 t) (iblk m c 5 t) (iblk m c 6 t) (iblk m c 7 t) (iblk m c 8 t) (iblk m c 9 t)

/-- Its two stores cover the output block. -/
theorem coverB (c : Dev nD) (t : Fin cfg0.N) (h : ¬t.val % 32 = 0) (y : S512x256.Idx) : ∃ pc ∈ (runB m c t h).1, y ∈ pc.1.set :=
  View.cover_of_tiledL (runB m c t h).1 S256x256.size (by sl_kernel_rfl) y

/-- What it leaves in the output block. -/
def outB (c : Dev nD) (t : Fin cfg0.N) (h : ¬t.val % 32 = 0) : Vec F S512x256 .bf16 :=
  VO0_10.read (Elt F) (VO0_10.writes (Elt F) VO0_10.junk (runB m c t h).1)

/-- What the body leaves in the output block at point `t`. -/
def out (c : Dev nD) (t : Fin cfg0.N) : Vec F S512x256 .bf16 :=
  if h : t.val % 32 = 0 then outA m c t h else outB m c t h

theorem out_first (c : Dev nD) (t : Fin cfg0.N) (h : t.val % 32 = 0) : out m c t = outA m c t h := by
  unfold out; rw [dif_pos h]

theorem out_late (c : Dev nD) (t : Fin cfg0.N) (h : ¬t.val % 32 = 0) : out m c t = outB m c t h := by
  unfold out; rw [dif_neg h]

/-- The pipeline's data on core `c`: each input's buffer holds its block at every point, the output's what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem leaves_0 (c : Dev nD) (t : Fin cfg0.N) : (dats m 0 c).leavesExact 0 t = owns (c : Thread nD τ) (ms0_0 t) fullShare (iblk m c 0 t) := by
  unfold Dat.leavesExact; rw [liveAt0_0 t, after_0]
theorem leaves_1 (c : Dev nD) (t : Fin cfg0.N) : (dats m 0 c).leavesExact 1 t = owns (c : Thread nD τ) (ms0_1 t) fullShare (iblk m c 1 t) := by
  unfold Dat.leavesExact; rw [liveAt0_1 t, after_1]
theorem leaves_2 (c : Dev nD) (t : Fin cfg0.N) : (dats m 0 c).leavesExact 2 t = owns (c : Thread nD τ) (ms0_2 t) fullShare (iblk m c 2 t) := by
  unfold Dat.leavesExact; rw [liveAt0_2 t, after_2]
theorem leaves_3 (c : Dev nD) (t : Fin cfg0.N) : (dats m 0 c).leavesExact 3 t = owns (c : Thread nD τ) (ms0_3 t) fullShare (iblk m c 3 t) := by
  unfold Dat.leavesExact; rw [liveAt0_3 t, after_3]
theorem leaves_4 (c : Dev nD) (t : Fin cfg0.N) : (dats m 0 c).leavesExact 4 t = owns (c : Thread nD τ) (ms0_4 t) fullShare (iblk m c 4 t) := by
  unfold Dat.leavesExact; rw [liveAt0_4 t, after_4]
theorem leaves_5 (c : Dev nD) (t : Fin cfg0.N) : (dats m 0 c).leavesExact 5 t = owns (c : Thread nD τ) (ms0_5 t) fullShare (iblk m c 5 t) := by
  unfold Dat.leavesExact; rw [liveAt0_5 t, after_5]
theorem leaves_6 (c : Dev nD) (t : Fin cfg0.N) : (dats m 0 c).leavesExact 6 t = owns (c : Thread nD τ) (ms0_6 t) fullShare (iblk m c 6 t) := by
  unfold Dat.leavesExact; rw [liveAt0_6 t, after_6]
theorem leaves_7 (c : Dev nD) (t : Fin cfg0.N) : (dats m 0 c).leavesExact 7 t = owns (c : Thread nD τ) (ms0_7 t) fullShare (iblk m c 7 t) := by
  unfold Dat.leavesExact; rw [liveAt0_7 t, after_7]
theorem leaves_8 (c : Dev nD) (t : Fin cfg0.N) : (dats m 0 c).leavesExact 8 t = owns (c : Thread nD τ) (ms0_8 t) fullShare (iblk m c 8 t) := by
  unfold Dat.leavesExact; rw [liveAt0_8 t, after_8]
theorem leaves_9 (c : Dev nD) (t : Fin cfg0.N) : (dats m 0 c).leavesExact 9 t = owns (c : Thread nD τ) (ms0_9 t) fullShare (iblk m c 9 t) := by
  unfold Dat.leavesExact; rw [liveAt0_9 t, after_9]
theorem leaves_first (c : Dev nD) (t : Fin cfg0.N) (h : t.val % 32 = 0) : (dats m 0 c).leavesExact 10 t
    = owns (c : Thread nD τ) (ms0_10 t) fullShare (outA m c t h) := by
  unfold Dat.leavesExact; rw [liveAt0_10_A t ((hcond0_0 t).mpr h) (fun e => first h ((hcond0_1 t).mp e)), after_10, out_first m c t h]
theorem leaves_late (c : Dev nD) (t : Fin cfg0.N) (h : ¬t.val % 32 = 0) : (dats m 0 c).leavesExact 10 t
    = owns (c : Thread nD τ) (ms0_10 t) fullShare (outB m c t h) := by
  unfold Dat.leavesExact; rw [liveAt0_10_B t (fun e => h ((hcond0_0 t).mp e)) ((hcond0_1 t).mpr (late h)), after_10, out_late m c t h]

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns there. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The body at any point: the run of the point's kind applies, and its stores cover the block. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, leaves_0, leaves_1, leaves_2, leaves_3, leaves_4, leaves_5, leaves_6, leaves_7, leaves_8, leaves_9]
  rw [show (dats m 0 c).Φ t.succ = (dats m 0 c).Φ t.castSucc from rfl,
    show (dats m 0 c).owesAt () t.succ = (dats m 0 c).owesAt () t.castSucc from rfl]
  by_cases h : t.val % 32 = 0
  · rw [leaves_first m c t h]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ ((hcond0_0 t).mpr h) (fun e => first h ((hcond0_1 t).mp e)) (iblk m c 0 t) (iblk m c 1 t) (iblk m c 2 t) (iblk m c 3 t) (iblk m c 4 t) (iblk m c 5 t) (iblk m c 6 t) (iblk m c 7 t) (iblk m c 8 t) (iblk m c 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverA m c t h)
  · rw [leaves_late m c t h]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (fun e => h ((hcond0_0 t).mp e)) ((hcond0_1 t).mpr (late h)) (iblk m c 0 t) (iblk m c 1 t) (iblk m c 2 t) (iblk m c 3 t) (iblk m c 4 t) (iblk m c 5 t) (iblk m c 6 t) (iblk m c 7 t) (iblk m c 8 t) (iblk m c 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverB m c t h)

theorem defs_row (t : Fin cfg0.N) :
    defs₀ (F := F) .tc cfg0.body (cfg0.bodyArgs t (cfg0.slots t)) = bodyAt0 t := by
  unfold defs₀; rw [Defs.onTc_tc]

/-- The library's obligation on the body, at every point. -/
theorem obligation (c : Dev nD) : BodyObligation (dats (F := F) m 0 c) (defs₀ (F := F)) Variants.none () Set.univ := fun t => by
  rw [bigSep_W0, bigSep_W0, defs_row]
  exact triple_restated (body m c t) rfl .rfl fun _ => .rfl

set_option backward.isDefEq.respectTransparency.types false in
/-- Every execution ends, with the pipeline's arrays at what its data say and every counter at zero. -/
theorem run_zero : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_zero m ρ)

/-- The frame: every execution ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_zero m ρ))

/-- The run with the result array named, the arguments unchanged. -/
theorem run_value : θ_run defs (onTc (τ := τ) (main (F := F))) ⟨m, fun _ => 0, ρ⟩ fun r => ∀ c : Dev nD,
      r.2.mem ((c : Thread nD τ).loc main_v36) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 10,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel3Ideal.Attn

end
-- ==== Proof.AttnHost.lean ====
module

public import proofs.«01_k».proof.Proof.AttnPay
public import proofs.«01_k».proof.Proof.AttnFrameIdeal
public import Idealize.ShloMosaic.Lib.Pipeline.ValueKit
public import Idealize.ShloMosaic.Lib.StableHlo.RunRead

/-!
# The chunk attention's host arrays

The query and value tiles, the key rows, and the bias tile: for head `h`, key `j` and query `r` of a tile, the bias of
their distance where the key lies in the band of the query's chunk, and `-∞` elsewhere.
-/

@[expose] public section

set_option maxRecDepth 16384
noncomputable section
open Idealize.ShloMosaic Idealize.ShloMosaic.TcCoe Idealize.SL.Sem

namespace Cert.Kernel3Ideal.Attn
open Cert.Kernel3Ideal Cert.Kernel3Ideal.Gen

/-- Tiles of 256 tokens, each with its features first. -/
def TILES (x : FVec Ideal S2x16384x256 .f32) : FVec Ideal S128x256x256 .bf16 :=
  transpose S128x256x256 [0, 2, 1] (shapeCast S128x256x256 (truncf .bf16 x bitsLt_bf16_f32) shapeCasts_S2x16384x256_S128x256x256) transposes_S128x256x256_S128x256x256_0_2_1

/-- The tokens in one row of blocks. -/
def ROWS (x : FVec Ideal S2x16384x256 .f32) : FVec Ideal S32768x256 .bf16 :=
  shapeCast S32768x256 (truncf .bf16 x bitsLt_bf16_f32) shapeCasts_S2x16384x256_S32768x256

/-- The keys' places divided by 64, rounding down. -/
def CHUNKJ (x : IVec S1x768 32) : IVec S1x768 32 :=
  select (andi (cmpi .ne (signi x) (broadcastInDim S1x768 ![] bcast_S_S1x768 (signi (constantI S_ 32 64#32)))) (cmpi .ne (Host.remsi x (broadcastInDim S1x768 ![] bcast_S_S1x768 (constantI S_ 32 64#32))) (broadcastInDim S1x768 ![] bcast_S_S1x768 (constantI S_ 32 0#32))))
    (subi (Host.divsi x (broadcastInDim S1x768 ![] bcast_S_S1x768 (constantI S_ 32 64#32))) (broadcastInDim S1x768 ![] bcast_S_S1x768 (constantI S_ 32 1#32)))
    (Host.divsi x (broadcastInDim S1x768 ![] bcast_S_S1x768 (constantI S_ 32 64#32)))

/-- The queries' places divided by 64, rounding down. -/
def CHUNKR (x : IVec S256x1 32) : IVec S256x1 32 :=
  select (andi (cmpi .ne (signi x) (broadcastInDim S256x1 ![] bcast_S_S256x1 (signi (constantI S_ 32 64#32)))) (cmpi .ne (Host.remsi x (broadcastInDim S256x1 ![] bcast_S_S256x1 (constantI S_ 32 64#32))) (broadcastInDim S256x1 ![] bcast_S_S256x1 (constantI S_ 32 0#32))))
    (subi (Host.divsi x (broadcastInDim S256x1 ![] bcast_S_S256x1 (constantI S_ 32 64#32))) (broadcastInDim S256x1 ![] bcast_S_S256x1 (constantI S_ 32 1#32)))
    (Host.divsi x (broadcastInDim S256x1 ![] bcast_S_S256x1 (constantI S_ 32 64#32)))

/-- How many chunks of 64 a key lies after its query's chunk. -/
def GAP : IVec S256x768 32 :=
  subi (broadcastInDim S256x768 ![0, 1] bcast_S1x768_S256x768_0_1 (CHUNKJ (broadcastInDim S1x768 ![1] bcast_S768_S1x768_1 (iotaInDim S768 32 0))))
    (broadcastInDim S256x768 ![0, 1] bcast_S256x1_S256x768_0_1 (CHUNKR (broadcastInDim S256x1 ![0] bcast_S256_S256x1_0 (iotaInDim S256 32 0))))

/-- The keys in the band of a query. -/
def VISIBLE : IVec S256x768 1 :=
  andi (cmpi .sge GAP (broadcastInDim S256x768 ![] bcast_S_S256x768 (constantI S_ 32 0#32)))
    (cmpi .sle GAP (broadcastInDim S256x768 ![] bcast_S_S256x768 (constantI S_ 32 8#32)))

/-- The places in the table of biases. -/
def PLACES : IVec S1024x1 32 :=
  broadcastInDim S1024x1 ![0] bcast_S1024_S1024x1_0 (select (constantI S1024 1 0#1)
    (addi (fun i => lit0 (S1024.rowMajor i)) (broadcastInDim S1024 ![] bcast_S_S1024 (constantI S_ 32 257#32))) (fun i => lit0 (S1024.rowMajor i)))

/-- The biases by distance, each query's run shifted by one place. -/
def SKEW (x : FVec Ideal S4x1024 .f32) : FVec Ideal S4x256x768 .f32 :=
  extractStridedSlice S4x256x768 ![0, 0, 0] (shapeCast S4x256x1023 (extractStridedSlice S4x261888 ![0, 0]
    (shapeCast S4x262144 (broadcastInDim S1x4x256x1024 ![0, 1, 2, 3] bcast_S1x4x1x1024_S1x4x256x1024_0_1_2_3 (shapeCast S1x4x1x1024 x shapeCasts_S4x1024_S1x4x1x1024)) shapeCasts_S1x4x256x1024_S4x262144)
    slices_S4x262144_S4x261888_0_0) shapeCasts_S4x261888_S4x256x1023) slices_S4x256x1023_S4x256x768_0_0_0

/-- The bias tile. -/
def BIAS (rel : FVec Ideal S4x257 .f32) : FVec Ideal S4x768x256 .f32 :=
  transpose S4x768x256 [0, 2, 1] (select (broadcastInDim S4x256x768 ![0, 1, 2] bcast_S1x256x768_S4x256x768_0_1_2 (broadcastInDim S1x256x768 ![1, 2] bcast_S256x768_S1x256x768_1_2 VISIBLE))
    (SKEW (Host.gather gather_S4x257_S1024x1_S4x1024_0_1_n_n_1_1_41 rel PLACES))
    (broadcastInDim S4x256x768 ![] bcast_S_S4x256x768 (constant S_ .f32 0xFF800000#32))) transposes_S4x256x768_S4x768x256_0_2_1

section
variable (m : (ℓ : Loc nD τ sig) → Buf (Elt Ideal) ℓ)

/-- The query tiles when the kernel starts. -/
theorem v2_eq (c : Dev nD) : V m c main_v2 = TILES (m ((c : Thread nD τ).loc main_arg0)) := rfl

/-- The key rows. -/
theorem v4_eq (c : Dev nD) : V m c main_v4 = ROWS (m ((c : Thread nD τ).loc main_arg1)) := rfl

/-- The value tiles. -/
theorem v7_eq (c : Dev nD) : V m c main_v7 = TILES (m ((c : Thread nD τ).loc main_arg2)) := rfl

set_option maxHeartbeats 1600000 in
/-- The bias tile. -/
theorem v35_eq (c : Dev nD) : V m c main_v35 = BIAS (m ((c : Thread nD τ).loc main_arg3)) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl
end

/-- A token of a tile. -/
theorem tiles_at (x : FVec Ideal S2x16384x256 .f32) (g : Fin 128) (d r : Fin 256) (n : Fin 2) (i : Fin 16384) (hi : n.val * 16384 + i.val = g.val * 256 + r.val) :
    TILES x (ix3 g d r) = x (ix3 n i d) := by
  pointwise [TILES]
  congr 2 <;> (ext; simp only; omega)

/-- A token of the rows. -/
theorem rows_at (x : FVec Ideal S2x16384x256 .f32) (g : Fin 32768) (d : Fin 256) (n : Fin 2) (i : Fin 16384) (hi : n.val * 16384 + i.val = g.val) :
    ROWS x (ix2 g d) = x (ix3 n i d) := by
  pointwise [ROWS]
  congr 2 <;> (ext; simp only; omega)

/-- The chunk of a key. -/
theorem chunkj_at (j : Fin 768) : CHUNKJ (broadcastInDim S1x768 ![1] bcast_S768_S1x768_1 (iotaInDim S768 32 0)) (ix2 (0 : Fin 1) j) = BitVec.ofNat 32 (j.val / 64) := by
  pointwise [CHUNKJ]
  revert j
  decide +kernel

/-- The chunk of a query. -/
theorem chunkr_at (r : Fin 256) : CHUNKR (broadcastInDim S256x1 ![0] bcast_S256_S256x1_0 (iotaInDim S256 32 0)) (ix2 r (0 : Fin 1)) = BitVec.ofNat 32 (r.val / 64) := by
  pointwise [CHUNKR]
  revert r
  decide +kernel

/-- The word comparisons, over all pairs of chunks. -/
theorem gap_word : ∀ (a : Fin 12) (b : Fin 4), IntOp.andi (IntOp.cmpi .sge (IntOp.subi (BitVec.ofNat 32 a.val) (BitVec.ofNat 32 b.val)) 0#32)
    (IntOp.cmpi .sle (IntOp.subi (BitVec.ofNat 32 a.val) (BitVec.ofNat 32 b.val)) 8#32) = if b.val ≤ a.val ∧ a.val ≤ b.val + 8 then 1#1 else 0#1 := by decide +kernel

/-- The band of a query. -/
theorem visible_at (r : Fin 256) (j : Fin 768) : VISIBLE (ix2 r j) = if r.val / 64 ≤ j.val / 64 ∧ j.val / 64 ≤ r.val / 64 + 8 then 1#1 else 0#1 := by
  pointwise [VISIBLE, GAP]
  rw [chunkj_at, chunkr_at]
  exact gap_word ⟨j.val / 64, by omega⟩ ⟨r.val / 64, by omega⟩

/-- The biases' gather, at one index. -/
theorem gather_at (rel : FVec Ideal S4x257 .f32) (idx : IVec S1024x1 32) (h : Fin 4) (i : Fin 1024) :
    Host.gather gather_S4x257_S1024x1_S4x1024_0_1_n_n_1_1_41 rel idx (ix2 h i)
      = rel (ix2 h ⟨min (idx (ix2 i (0 : Fin 1))).toInt.toNat 256, by omega⟩) := by
  unfold Host.gather
  refine congrArg rel (funext fun a => Fin.ext ?_)
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (show (0 : Fin 2) ∉ gather_S4x257_S1024x1_S4x1024_0_1_n_n_1_1_41.startIndexMap from by simp [gather_S4x257_S1024x1_S4x1024_0_1_n_n_1_1_41])]
    unfold GatherDims.offCoord
    rw [dif_pos (show (0 : Fin 2) ∈ gather_S4x257_S1024x1_S4x1024_0_1_n_n_1_1_41.sKept from (GatherDims.mem_sKept _ _).mpr ⟨by simp [gather_S4x257_S1024x1_S4x1024_0_1_n_n_1_1_41], List.not_mem_nil⟩)]
    simp only [Nat.zero_add]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S4x257_S1024x1_S4x1024_0_1_n_n_1_1_41.startIndexMap from List.mem_singleton.mpr rfl)]
    simp only [Nat.add_zero]
    refine congrArg₂ min (congrArg (fun z => (idx z).toInt.toNat) (funext fun b => Fin.ext ?_)) rfl
    match b with
    | ⟨0, _⟩ => rfl
    | ⟨1, _⟩ => rfl

/-- The table of places: the distance from the query's chunk, clipped. -/
theorem table : ∀ e : Fin 1024, min (lit0 e).toInt.toNat 256 = if e.val < 768 then min 256 (640 - e.val) else min 256 (640 + 1024 - e.val) := by
  decide +kernel

/-- A place, at one index. -/
theorem places_at (i : Fin 1024) : PLACES (ix2 i (0 : Fin 1)) = lit0 i := by
  pointwise [PLACES]
  exact congrArg lit0 (Fin.ext (Shape.rowMajor_val_one (ix1 i)))

/-- A shifted run, at one index. -/
theorem skew_at (x : FVec Ideal S4x1024 .f32) (h : Fin 4) (r : Fin 256) (j : Fin 768) :
    SKEW x (ix3 h r j) = x (ix2 h ⟨(j.val + 1024 - r.val) % 1024, by omega⟩) := by
  pointwise [SKEW]
  exact congrArg (fun t => x (ix2 h t)) (Fin.ext (by simp only; omega))

/-- The bias tile, at one index. -/
theorem bias_at (rel : FVec Ideal S4x257 .f32) (h : Fin 4) (j : Fin 768) (r : Fin 256) :
    BIAS rel (ix3 h j r) = if r.val / 64 ≤ j.val / 64 ∧ j.val / 64 ≤ r.val / 64 + 8 then rel (ix2 h ⟨min 256 (640 + r.val - j.val), by omega⟩) else ⊥ := by
  pointwise [BIAS]
  rw [visible_at, skew_at, gather_at]
  by_cases g : r.val / 64 ≤ j.val / 64 ∧ j.val / 64 ≤ r.val / 64 + 8
  · rw [if_pos g, if_pos g]
    refine congrArg rel (congrArg (ix2 h) (Fin.ext ?_))
    show min (PLACES (ix2 (⟨(j.val + 1024 - r.val) % 1024, by omega⟩ : Fin 1024) (0 : Fin 1))).toInt.toNat 256 = _
    rw [places_at, table]
    simp only
    split_ifs <;> omega
  · rw [if_neg g, if_neg g]
    exact ofBits_bot

end Cert.Kernel3Ideal.Attn
end
-- ==== Proof.AttnBlocks.lean ====
module

public import proofs.«01_k».proof.Proof.AttnHost

/-!
# What the chunk attention's windows hold at each grid point
-/

@[expose] public section

set_option maxRecDepth 16384
noncomputable section
open Idealize.ShloMosaic Idealize.ShloMosaic.TcCoe Idealize.SL.Sem

namespace Cert.Kernel3Ideal.Attn
open Cert.Kernel3Ideal Cert.Kernel3Ideal.Gen
variable (m : (ℓ : Loc nD τ sig) → Buf (Elt Ideal) ℓ)

/-- The windows' block indices at every grid point. -/
theorem idx : ∀ t : Fin cfg0.N, win0_0.index t = ![t.val, 0, 0]
    ∧ win0_1.index t = ![t.val / 32 * 64 + (t.val % 32 * 2 + 0 - 2), 0]
    ∧ win0_2.index t = ![t.val / 32 * 64 + (t.val % 32 * 2 + 1 - 2), 0]
    ∧ win0_3.index t = ![t.val / 32 * 64 + (t.val % 32 * 2 + 2 - 2), 0]
    ∧ win0_4.index t = ![t.val / 32 * 64 + (t.val % 32 * 2 + 3 - 2), 0]
    ∧ win0_5.index t = ![t.val / 32 * 64 + (t.val % 32 * 2 + 0 - 2), 0, 0]
    ∧ win0_6.index t = ![t.val / 32 * 64 + (t.val % 32 * 2 + 1 - 2), 0, 0]
    ∧ win0_7.index t = ![t.val / 32 * 64 + (t.val % 32 * 2 + 2 - 2), 0, 0]
    ∧ win0_8.index t = ![t.val / 32 * 64 + (t.val % 32 * 2 + 3 - 2), 0, 0]
    ∧ win0_9.index t = ![0, 0, 0] ∧ win0_10.index t = ![t.val, 0] :=
  (by decide +kernel : ∀ t : Fin grid0.N, _)

/-- The queries' block. -/
theorem blk_q (c : Dev nD) (t : Fin cfg0.N) (s : Fin 2) (d r : Fin 256) (n : Fin 2) (i : Fin 16384) (hn : n.val = t.val / 32) (hi : i.val = t.val % 32 * 512 + s.val * 256 + r.val) :
    iblk m c 0 t (ix3 s d r) = m ((c : Thread nD τ).loc main_arg0) (ix3 n i d) := by
  have ht : t.val < 64 := t.isLt
  unfold iblk
  rw [show V m c (Pipeline.arrRef spec0 0) = TILES (m ((c : Thread nD τ).loc main_arg0)) from v2_eq m c]
  refine Eq.trans ?_ (tiles_at _ (⟨t.val * 2 + s.val, by omega⟩) d r n i (by simp only; omega))
  blk_ext [idx t]

/-- The keys' block 0. -/
theorem blk_k0 (c : Dev nD) (t : Fin cfg0.N) (e d : Fin 256) (n : Fin 2) (i : Fin 16384) (hn : n.val = t.val / 32) (hi : i.val = (t.val % 32 * 2 + 0 - 2) * 256 + e.val) :
    iblk m c 1 t (ix2 e d) = m ((c : Thread nD τ).loc main_arg1) (ix3 n i d) := by
  have ht : t.val < 64 := t.isLt
  unfold iblk
  rw [show V m c (Pipeline.arrRef spec0 1) = ROWS (m ((c : Thread nD τ).loc main_arg1)) from v4_eq m c]
  refine Eq.trans ?_ (rows_at _ (⟨(t.val / 32 * 64 + (t.val % 32 * 2 + 0 - 2)) * 256 + e.val, by omega⟩) d n i (by simp only; omega))
  blk_ext [idx t]

/-- The values' block 0. -/
theorem blk_v0 (c : Dev nD) (t : Fin cfg0.N) (e d : Fin 256) (n : Fin 2) (i : Fin 16384) (hn : n.val = t.val / 32) (hi : i.val = (t.val % 32 * 2 + 0 - 2) * 256 + e.val) :
    iblk m c 5 t (ix3 (0 : Fin 1) d e) = m ((c : Thread nD τ).loc main_arg2) (ix3 n i d) := by
  have ht : t.val < 64 := t.isLt
  unfold iblk
  rw [show V m c (Pipeline.arrRef spec0 5) = TILES (m ((c : Thread nD τ).loc main_arg2)) from v7_eq m c]
  refine Eq.trans ?_ (tiles_at _ (⟨t.val / 32 * 64 + (t.val % 32 * 2 + 0 - 2), by omega⟩) d e n i (by simp only; omega))
  blk_ext [idx t]

/-- The keys' block 1. -/
theorem blk_k1 (c : Dev nD) (t : Fin cfg0.N) (e d : Fin 256) (n : Fin 2) (i : Fin 16384) (hn : n.val = t.val / 32) (hi : i.val = (t.val % 32 * 2 + 1 - 2) * 256 + e.val) :
    iblk m c 2 t (ix2 e d) = m ((c : Thread nD τ).loc main_arg1) (ix3 n i d) := by
  have ht : t.val < 64 := t.isLt
  unfold iblk
  rw [show V m c (Pipeline.arrRef spec0 2) = ROWS (m ((c : Thread nD τ).loc main_arg1)) from v4_eq m c]
  refine Eq.trans ?_ (rows_at _ (⟨(t.val / 32 * 64 + (t.val % 32 * 2 + 1 - 2)) * 256 + e.val, by omega⟩) d n i (by simp only; omega))
  blk_ext [idx t]

/-- The values' block 1. -/
theorem blk_v1 (c : Dev nD) (t : Fin cfg0.N) (e d : Fin 256) (n : Fin 2) (i : Fin 16384) (hn : n.val = t.val / 32) (hi : i.val = (t.val % 32 * 2 + 1 - 2) * 256 + e.val) :
    iblk m c 6 t (ix3 (0 : Fin 1) d e) = m ((c : Thread nD τ).loc main_arg2) (ix3 n i d) := by
  have ht : t.val < 64 := t.isLt
  unfold iblk
  rw [show V m c (Pipeline.arrRef spec0 6) = TILES (m ((c : Thread nD τ).loc main_arg2)) from v7_eq m c]
  refine Eq.trans ?_ (tiles_at _ (⟨t.val / 32 * 64 + (t.val % 32 * 2 + 1 - 2), by omega⟩) d e n i (by simp only; omega))
  blk_ext [idx t]

/-- The keys' block 2. -/
theorem blk_k2 (c : Dev nD) (t : Fin cfg0.N) (e d : Fin 256) (n : Fin 2) (i : Fin 16384) (hn : n.val = t.val / 32) (hi : i.val = (t.val % 32 * 2 + 2 - 2) * 256 + e.val) :
    iblk m c 3 t (ix2 e d) = m ((c : Thread nD τ).loc main_arg1) (ix3 n i d) := by
  have ht : t.val < 64 := t.isLt
  unfold iblk
  rw [show V m c (Pipeline.arrRef spec0 3) = ROWS (m ((c : Thread nD τ).loc main_arg1)) from v4_eq m c]
  refine Eq.trans ?_ (rows_at _ (⟨(t.val / 32 * 64 + (t.val % 32 * 2 + 2 - 2)) * 256 + e.val, by omega⟩) d n i (by simp only; omega))
  blk_ext [idx t]

/-- The values' block 2. -/
theorem blk_v2 (c : Dev nD) (t : Fin cfg0.N) (e d : Fin 256) (n : Fin 2) (i : Fin 16384) (hn : n.val = t.val / 32) (hi : i.val = (t.val % 32 * 2 + 2 - 2) * 256 + e.val) :
    iblk m c 7 t (ix3 (0 : Fin 1) d e) = m ((c : Thread nD τ).loc main_arg2) (ix3 n i d) := by
  have ht : t.val < 64 := t.isLt
  unfold iblk
  rw [show V m c (Pipeline.arrRef spec0 7) = TILES (m ((c : Thread nD τ).loc main_arg2)) from v7_eq m c]
  refine Eq.trans ?_ (tiles_at _ (⟨t.val / 32 * 64 + (t.val % 32 * 2 + 2 - 2), by omega⟩) d e n i (by simp only; omega))
  blk_ext [idx t]

/-- The keys' block 3. -/
theorem blk_k3 (c : Dev nD) (t : Fin cfg0.N) (e d : Fin 256) (n : Fin 2) (i : Fin 16384) (hn : n.val = t.val / 32) (hi : i.val = (t.val % 32 * 2 + 3 - 2) * 256 + e.val) :
    iblk m c 4 t (ix2 e d) = m ((c : Thread nD τ).loc main_arg1) (ix3 n i d) := by
  have ht : t.val < 64 := t.isLt
  unfold iblk
  rw [show V m c (Pipeline.arrRef spec0 4) = ROWS (m ((c : Thread nD τ).loc main_arg1)) from v4_eq m c]
  refine Eq.trans ?_ (rows_at _ (⟨(t.val / 32 * 64 + (t.val % 32 * 2 + 3 - 2)) * 256 + e.val, by omega⟩) d n i (by simp only; omega))
  blk_ext [idx t]

/-- The values' block 3. -/
theorem blk_v3 (c : Dev nD) (t : Fin cfg0.N) (e d : Fin 256) (n : Fin 2) (i : Fin 16384) (hn : n.val = t.val / 32) (hi : i.val = (t.val % 32 * 2 + 3 - 2) * 256 + e.val) :
    iblk m c 8 t (ix3 (0 : Fin 1) d e) = m ((c : Thread nD τ).loc main_arg2) (ix3 n i d) := by
  have ht : t.val < 64 := t.isLt
  unfold iblk
  rw [show V m c (Pipeline.arrRef spec0 8) = TILES (m ((c : Thread nD τ).loc main_arg2)) from v7_eq m c]
  refine Eq.trans ?_ (tiles_at _ (⟨t.val / 32 * 64 + (t.val % 32 * 2 + 3 - 2), by omega⟩) d e n i (by simp only; omega))
  blk_ext [idx t]

/-- The bias block is the bias tile. -/
theorem blk_b (c : Dev nD) (t : Fin cfg0.N) (h : Fin 4) (j : Fin 768) (r : Fin 256) :
    iblk m c 9 t (ix3 h j r) = BIAS (m ((c : Thread nD τ).loc main_arg3)) (ix3 h j r) := by
  unfold iblk
  rw [show V m c (Pipeline.arrRef spec0 9) = BIAS (m ((c : Thread nD τ).loc main_arg3)) from v35_eq m c]
  blk_ext [idx t]

end Cert.Kernel3Ideal.Attn
end
-- ==== Proof.AttnVal.lean ====
module

public import proofs.«01_k».proof.Proof.AttnCore
public import proofs.«01_k».proof.Proof.AttnBlocks

/-!
# The chunk attention's result

At each grid point the kernel stores two tiles of 256 tokens; the tiles cover the result.
-/

@[expose] public section

set_option maxRecDepth 16384
noncomputable section
open Idealize.ShloMosaic Idealize.ShloMosaic.TcCoe Idealize.SL.Sem

namespace Cert.Kernel3Ideal.Attn
open Cert.Kernel3Ideal Cert.Kernel3Ideal.Gen
open Cert.Reference3Ideal.Value (score band REF ref_at)

/-- Four key blocks in a run of rows `u`, when each holds its part. -/
theorem keys_of (x1 x2 x3 x4 : Vec Ideal S256x256 .bf16) (d : Fin 256) (p : ℕ) (u : Fin 16384 → EReal)
    (f1 : ∀ (e : Fin 256) (i : Fin 16384), i.val = (p * 2 + 0 - 2) * 256 + e.val → x1 (ix2 e d) = u i)
    (f2 : ∀ (e : Fin 256) (i : Fin 16384), i.val = (p * 2 + 1 - 2) * 256 + e.val → x2 (ix2 e d) = u i)
    (f3 : ∀ (e : Fin 256) (i : Fin 16384), i.val = (p * 2 + 2 - 2) * 256 + e.val → x3 (ix2 e d) = u i)
    (f4 : ∀ (e : Fin 256) (i : Fin 16384), i.val = (p * 2 + 3 - 2) * 256 + e.val → x4 (ix2 e d) = u i)
    (l : Fin 1024) (i : Fin 16384) (hi : i.val + 512 = p * 512 + l.val) : k0_pay1 (F := Ideal) x1 x2 x3 x4 (ix2 l d) = u i := by
  rw [keys_at]
  obtain ⟨w, e, hl⟩ : ∃ (w : Fin 4) (e : Fin 256), l.val = 256 * w.val + e.val :=
    ⟨⟨l.val / 256, by omega⟩, ⟨l.val % 256, by omega⟩, by show l.val = 256 * (l.val / 256) + l.val % 256; omega⟩
  rw [show (⟨l.val / 256, by omega⟩ : Fin 4) = w from Fin.ext (by show l.val / 256 = w.val; omega),
    show (⟨l.val % 256, by omega⟩ : Fin 256) = e from Fin.ext (by show l.val % 256 = e.val; omega)]
  fin_cases w <;> simp only at hl <;> norm_num at hl
  · exact f1 e i (by omega)
  · exact f2 e i (by omega)
  · exact f3 e i (by omega)
  · exact f4 e i (by omega)

/-- The same of the value blocks. -/
theorem vals_of (x1 x2 x3 x4 : Vec Ideal S1x256x256 .bf16) (d : Fin 256) (p : ℕ) (u : Fin 16384 → EReal)
    (f1 : ∀ (e : Fin 256) (i : Fin 16384), i.val = (p * 2 + 0 - 2) * 256 + e.val → x1 (ix3 (0 : Fin 1) d e) = u i)
    (f2 : ∀ (e : Fin 256) (i : Fin 16384), i.val = (p * 2 + 1 - 2) * 256 + e.val → x2 (ix3 (0 : Fin 1) d e) = u i)
    (f3 : ∀ (e : Fin 256) (i : Fin 16384), i.val = (p * 2 + 2 - 2) * 256 + e.val → x3 (ix3 (0 : Fin 1) d e) = u i)
    (f4 : ∀ (e : Fin 256) (i : Fin 16384), i.val = (p * 2 + 3 - 2) * 256 + e.val → x4 (ix3 (0 : Fin 1) d e) = u i)
    (l : Fin 1024) (i : Fin 16384) (hi : i.val + 512 = p * 512 + l.val) : k0_pay2 (F := Ideal) x1 x2 x3 x4 (ix2 d l) = u i := by
  rw [vals_at]
  obtain ⟨w, e, hl⟩ : ∃ (w : Fin 4) (e : Fin 256), l.val = 256 * w.val + e.val :=
    ⟨⟨l.val / 256, by omega⟩, ⟨l.val % 256, by omega⟩, by show l.val = 256 * (l.val / 256) + l.val % 256; omega⟩
  rw [show (⟨l.val / 256, by omega⟩ : Fin 4) = w from Fin.ext (by show l.val / 256 = w.val; omega),
    show (⟨l.val % 256, by omega⟩ : Fin 256) = e from Fin.ext (by show l.val % 256 = e.val; omega)]
  fin_cases w <;> simp only at hl <;> norm_num at hl
  · exact f1 e i (by omega)
  · exact f2 e i (by omega)
  · exact f3 e i (by omega)
  · exact f4 e i (by omega)

variable (m : (ℓ : Loc nD τ sig) → Buf (Elt Ideal) ℓ)

/-- The four key blocks of a point, row by row, where the row lies in the sequence. -/
theorem keys_blk (c : Dev nD) (t : Fin cfg0.N) (n : Fin 2) (hn : n.val = t.val / 32) (l : Fin 1024) (d : Fin 256) (i : Fin 16384) (hi : i.val + 512 = t.val % 32 * 512 + l.val) :
    k0_pay1 (F := Ideal) (iblk m c 1 t) (iblk m c 2 t) (iblk m c 3 t) (iblk m c 4 t) (ix2 l d) = m ((c : Thread nD τ).loc main_arg1) (ix3 n i d) :=
  keys_of _ _ _ _ d (t.val % 32) (fun i => m ((c : Thread nD τ).loc main_arg1) (ix3 n i d)) (fun e i => blk_k0 m c t e d n i hn) (fun e i => blk_k1 m c t e d n i hn)
    (fun e i => blk_k2 m c t e d n i hn) (fun e i => blk_k3 m c t e d n i hn) l i hi

/-- The four value blocks. -/
theorem vals_blk (c : Dev nD) (t : Fin cfg0.N) (n : Fin 2) (hn : n.val = t.val / 32) (l : Fin 1024) (d : Fin 256) (i : Fin 16384) (hi : i.val + 512 = t.val % 32 * 512 + l.val) :
    k0_pay2 (F := Ideal) (iblk m c 5 t) (iblk m c 6 t) (iblk m c 7 t) (iblk m c 8 t) (ix2 d l) = m ((c : Thread nD τ).loc main_arg2) (ix3 n i d) :=
  vals_of _ _ _ _ d (t.val % 32) (fun i => m ((c : Thread nD τ).loc main_arg2) (ix3 n i d)) (fun e i => blk_v0 m c t e d n i hn) (fun e i => blk_v1 m c t e d n i hn)
    (fun e i => blk_v2 m c t e d n i hn) (fun e i => blk_v3 m c t e d n i hn) l i hi

/-- The second grid coordinate of a point. -/
theorem coord : ∀ t : Fin cfg0.N, (grid0.coords t 1).val = t.val % 32 := (by decide +kernel : ∀ t : Fin grid0.N, _)

/-- What a sequence's first point stores. -/
theorem first_point (c : Dev nD) (t : Fin cfg0.N) (g : t.val % 32 = 0) (y : S512x256.Idx) (z : Fin 32768) (e : z.val = t.val * 512 + (y 0).val) :
    outA m c t g y = REF (m ((c : Thread nD τ).loc main_arg0)) (m ((c : Thread nD τ).loc main_arg1)) (m ((c : Thread nD τ).loc main_arg2)) (m ((c : Thread nD τ).loc main_arg3)) (ix2 z (y 1)) := by
  have tl : t.val < 64 := t.isLt
  obtain ⟨n, nt⟩ : ∃ n : Fin 2, n.val = t.val / 32 := ⟨⟨t.val / 32, by omega⟩, rfl⟩
  have qf := fun s d r i hi => blk_q m c t s d r n i nt hi
  have kf := fun l d i hi => keys_blk m c t n nt l d i hi
  have vf := fun l d i hi => vals_blk m c t n nt l d i hi
  have bf := fun h j r => (blk_b m c t h j r).trans (bias_at _ h j r)
  have tf := coord t
  unfold outA runA
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  generalize iblk m c 9 t = x9 at *
  unfold kernelRun0_A
  dsimp only
  frame_out
  rw [show (grid0.coords t 1).val = 0 by omega]
  canon_tiles x h
  · obtain ⟨r, cc, rfl⟩ : ∃ r cc : Fin 256, x = ix2 r cc := ⟨x 0, x 1, (eq_ix2 x)⟩
    have e0 : (y 0).val = 256 + r.val := h0
    have e1 : y 1 = cc := Fin.ext h1
    rw [e1]
    obtain ⟨h, d, hd⟩ : ∃ (h : Fin 4) (d : Fin 64), cc.val = h.val * 64 + d.val :=
      ⟨⟨cc.val / 64, by omega⟩, ⟨cc.val % 64, by omega⟩, by show cc.val = cc.val / 64 * 64 + cc.val % 64; omega⟩
    have hc : cc = ⟨h.val * 64 + d.val, col_lt h d⟩ := Fin.ext hd
    obtain ⟨b, hb⟩ : ∃ b : Fin 256, b.val = t.val % 32 * 8 + 1 * 4 + r.val / 64 := ⟨⟨t.val % 32 * 8 + 1 * 4 + r.val / 64, by omega⟩, rfl⟩
    obtain ⟨i, hi⟩ : ∃ i : Fin 64, i.val = r.val % 64 := ⟨⟨r.val % 64, by omega⟩, rfl⟩
    rw [ref_at _ _ _ _ n b i h d z cc (by omega) hd, hc]
    exact first1_point (m ((c : Thread nD τ).loc main_arg0)) (m ((c : Thread nD τ).loc main_arg1)) (m ((c : Thread nD τ).loc main_arg2)) (m ((c : Thread nD τ).loc main_arg3)) n (t.val % 32)
      x1 x2 x3 x4 x5 x6 x7 x8 _ _ _ _ _ kf vf
      (fun h j r => by
        refine Eq.trans ?_ (bf h j r)
        fin_cases h
        · show View.ld x9 _ _ = x9 _
          pointwise []
        · show View.ld x9 _ _ = x9 _
          pointwise []
        · show View.ld x9 _ _ = x9 _
          pointwise []
        · show View.ld x9 _ _ = x9 _
          pointwise [])
      r h d b i hi g
      (fun d r i hi => by
        refine Eq.trans ?_ (qf 1 d r i hi)
        pointwise [])
      hb
  · obtain ⟨r, cc, rfl⟩ : ∃ r cc : Fin 256, x = ix2 r cc := ⟨x 0, x 1, (eq_ix2 x)⟩
    have e0 : (y 0).val = r.val := h0
    have e1 : y 1 = cc := Fin.ext h1
    rw [e1]
    obtain ⟨h, d, hd⟩ : ∃ (h : Fin 4) (d : Fin 64), cc.val = h.val * 64 + d.val :=
      ⟨⟨cc.val / 64, by omega⟩, ⟨cc.val % 64, by omega⟩, by show cc.val = cc.val / 64 * 64 + cc.val % 64; omega⟩
    have hc : cc = ⟨h.val * 64 + d.val, col_lt h d⟩ := Fin.ext hd
    obtain ⟨b, hb⟩ : ∃ b : Fin 256, b.val = t.val % 32 * 8 + 0 * 4 + r.val / 64 := ⟨⟨t.val % 32 * 8 + 0 * 4 + r.val / 64, by omega⟩, rfl⟩
    obtain ⟨i, hi⟩ : ∃ i : Fin 64, i.val = r.val % 64 := ⟨⟨r.val % 64, by omega⟩, rfl⟩
    rw [ref_at _ _ _ _ n b i h d z cc (by omega) hd, hc]
    exact first0_point (m ((c : Thread nD τ).loc main_arg0)) (m ((c : Thread nD τ).loc main_arg1)) (m ((c : Thread nD τ).loc main_arg2)) (m ((c : Thread nD τ).loc main_arg3)) n (t.val % 32)
      x1 x2 x3 x4 x5 x6 x7 x8 _ _ _ _ _ kf vf
      (fun h j r => by
        refine Eq.trans ?_ (bf h j r)
        fin_cases h
        · show View.ld x9 _ _ = x9 _
          pointwise []
        · show View.ld x9 _ _ = x9 _
          pointwise []
        · show View.ld x9 _ _ = x9 _
          pointwise []
        · show View.ld x9 _ _ = x9 _
          pointwise [])
      r h d b i hi g
      (fun d r i hi => by
        refine Eq.trans ?_ (qf 0 d r i hi)
        pointwise [])
      hb

/-- What any other point stores. -/
theorem late_point (c : Dev nD) (t : Fin cfg0.N) (g : ¬t.val % 32 = 0) (y : S512x256.Idx) (z : Fin 32768) (e : z.val = t.val * 512 + (y 0).val) :
    outB m c t g y = REF (m ((c : Thread nD τ).loc main_arg0)) (m ((c : Thread nD τ).loc main_arg1)) (m ((c : Thread nD τ).loc main_arg2)) (m ((c : Thread nD τ).loc main_arg3)) (ix2 z (y 1)) := by
  have tl : t.val < 64 := t.isLt
  obtain ⟨n, nt⟩ : ∃ n : Fin 2, n.val = t.val / 32 := ⟨⟨t.val / 32, by omega⟩, rfl⟩
  have qf := fun s d r i hi => blk_q m c t s d r n i nt hi
  have kf := fun l d i hi => keys_blk m c t n nt l d i hi
  have vf := fun l d i hi => vals_blk m c t n nt l d i hi
  have bf := fun h j r => (blk_b m c t h j r).trans (bias_at _ h j r)
  have tf := coord t
  unfold outB runB
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize iblk m c 6 t = x6 at *
  generalize iblk m c 7 t = x7 at *
  generalize iblk m c 8 t = x8 at *
  generalize iblk m c 9 t = x9 at *
  unfold kernelRun0_B
  dsimp only
  frame_out
  canon_tiles x h
  · obtain ⟨r, cc, rfl⟩ : ∃ r cc : Fin 256, x = ix2 r cc := ⟨x 0, x 1, (eq_ix2 x)⟩
    have e0 : (y 0).val = 256 + r.val := h0
    have e1 : y 1 = cc := Fin.ext h1
    rw [e1]
    obtain ⟨h, d, hd⟩ : ∃ (h : Fin 4) (d : Fin 64), cc.val = h.val * 64 + d.val :=
      ⟨⟨cc.val / 64, by omega⟩, ⟨cc.val % 64, by omega⟩, by show cc.val = cc.val / 64 * 64 + cc.val % 64; omega⟩
    have hc : cc = ⟨h.val * 64 + d.val, col_lt h d⟩ := Fin.ext hd
    obtain ⟨b, hb⟩ : ∃ b : Fin 256, b.val = t.val % 32 * 8 + 1 * 4 + r.val / 64 := ⟨⟨t.val % 32 * 8 + 1 * 4 + r.val / 64, by omega⟩, rfl⟩
    obtain ⟨i, hi⟩ : ∃ i : Fin 64, i.val = r.val % 64 := ⟨⟨r.val % 64, by omega⟩, rfl⟩
    rw [ref_at _ _ _ _ n b i h d z cc (by omega) hd, hc]
    exact late1_point (m ((c : Thread nD τ).loc main_arg0)) (m ((c : Thread nD τ).loc main_arg1)) (m ((c : Thread nD τ).loc main_arg2)) (m ((c : Thread nD τ).loc main_arg3)) n (t.val % 32)
      x1 x2 x3 x4 x5 x6 x7 x8 _ _ _ _ _ kf vf
      (fun h j r => by
        refine Eq.trans ?_ (bf h j r)
        fin_cases h
        · show View.ld x9 _ _ = x9 _
          pointwise []
        · show View.ld x9 _ _ = x9 _
          pointwise []
        · show View.ld x9 _ _ = x9 _
          pointwise []
        · show View.ld x9 _ _ = x9 _
          pointwise [])
      r h d b i hi (by omega)
      (fun d r i hi => by
        refine Eq.trans ?_ (qf 1 d r i hi)
        pointwise [])
      hb
  · obtain ⟨r, cc, rfl⟩ : ∃ r cc : Fin 256, x = ix2 r cc := ⟨x 0, x 1, (eq_ix2 x)⟩
    have e0 : (y 0).val = r.val := h0
    have e1 : y 1 = cc := Fin.ext h1
    rw [e1]
    obtain ⟨h, d, hd⟩ : ∃ (h : Fin 4) (d : Fin 64), cc.val = h.val * 64 + d.val :=
      ⟨⟨cc.val / 64, by omega⟩, ⟨cc.val % 64, by omega⟩, by show cc.val = cc.val / 64 * 64 + cc.val % 64; omega⟩
    have hc : cc = ⟨h.val * 64 + d.val, col_lt h d⟩ := Fin.ext hd
    obtain ⟨b, hb⟩ : ∃ b : Fin 256, b.val = t.val % 32 * 8 + 0 * 4 + r.val / 64 := ⟨⟨t.val % 32 * 8 + 0 * 4 + r.val / 64, by omega⟩, rfl⟩
    obtain ⟨i, hi⟩ : ∃ i : Fin 64, i.val = r.val % 64 := ⟨⟨r.val % 64, by omega⟩, rfl⟩
    rw [ref_at _ _ _ _ n b i h d z cc (by omega) hd, hc]
    exact late0_point (m ((c : Thread nD τ).loc main_arg0)) (m ((c : Thread nD τ).loc main_arg1)) (m ((c : Thread nD τ).loc main_arg2)) (m ((c : Thread nD τ).loc main_arg3)) n (t.val % 32)
      x1 x2 x3 x4 x5 x6 x7 x8 _ _ _ _ _ kf vf
      (fun h j r => by
        refine Eq.trans ?_ (bf h j r)
        fin_cases h
        · show View.ld x9 _ _ = x9 _
          pointwise []
        · show View.ld x9 _ _ = x9 _
          pointwise []
        · show View.ld x9 _ _ = x9 _
          pointwise []
        · show View.ld x9 _ _ = x9 _
          pointwise [])
      r h d b i hi (by omega)
      (fun d r i hi => by
        refine Eq.trans ?_ (qf 0 d r i hi)
        pointwise [])
      hb

/-- The result of the call is the reference's result. -/
theorem final (c : Dev nD) : (dats m 0 c).arrAt 10 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after_10]
  idx_vars y
  have ht : t.val < 64 := t.isLt
  by_cases g : t.val % 32 = 0
  · rw [out_first m c t g]
    refine (first_point m c t g _ ⟨t.val * 512 + y0.val, by omega⟩ rfl).trans (congrArg _ ?_)
    blk_ext [idx t]
  · rw [out_late m c t g]
    refine (late_point m c t g _ ⟨t.val * 512 + y0.val, by omega⟩ rfl).trans (congrArg _ ?_)
    blk_ext [idx t]

end Cert.Kernel3Ideal.Attn
end
-- ==== Proof.ProjOutIdeal.lean ====
module

public import proofs.«01_k».proof.Proof.Gen.Kernel4Ideal.Frame.RunA
public import Idealize.ShloMosaic.Lib.Claim

/-!
# What the input projection's body leaves, idealized

The grid has 64 points of 512 tokens each.  A point reads its tokens, the matrix and the small vectors, and leaves
fourteen blocks.  No point reads what another wrote.
-/

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The body's run at a point. -/
abbrev run (c : Dev nD) (t : Fin cfg0.N) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The stores of window 11, the first mixer's queries, cover its block. -/
theorem cover_11 (c : Dev nD) (t : Fin cfg0.N) (y : S2x256x256.Idx) : ∃ pc ∈ (run m c t).1, y ∈ pc.1.set :=
  View.cover_of_tiledL (run m c t).1 S1x256x256.size (by sl_kernel_rfl) y

/-- What they leave there. -/
def out_11 (c : Dev nD) (t : Fin cfg0.N) : Vec F S2x256x256 .bf16 :=
  VO0_11.read (Elt F) (VO0_11.writes (Elt F) VO0_11.junk (run m c t).1)

/-- The stores of window 12, its keys, cover its block. -/
theorem cover_12 (c : Dev nD) (t : Fin cfg0.N) (y : S512x256.Idx) : ∃ pc ∈ (run m c t).2.1, y ∈ pc.1.set :=
  View.cover_of_tiledL (run m c t).2.1 S512x256.size (by sl_kernel_rfl) y

/-- What they leave there. -/
def out_12 (c : Dev nD) (t : Fin cfg0.N) : Vec F S512x256 .bf16 :=
  VO0_12.read (Elt F) (VO0_12.writes (Elt F) VO0_12.junk (run m c t).2.1)

/-- The stores of window 13, its values, cover its block. -/
theorem cover_13 (c : Dev nD) (t : Fin cfg0.N) (y : S2x256x256.Idx) : ∃ pc ∈ (run m c t).2.2.1, y ∈ pc.1.set :=
  View.cover_of_tiledL (run m c t).2.2.1 S1x256x256.size (by sl_kernel_rfl) y

/-- What they leave there. -/
def out_13 (c : Dev nD) (t : Fin cfg0.N) : Vec F S2x256x256 .bf16 :=
  VO0_13.read (Elt F) (VO0_13.writes (Elt F) VO0_13.junk (run m c t).2.2.1)

/-- The stores of window 14, the second mixer's queries and keys, cover its block. -/
theorem cover_14 (c : Dev nD) (t : Fin cfg0.N) (y : S512x512.Idx) : ∃ pc ∈ (run m c t).2.2.2.1, y ∈ pc.1.set :=
  View.cover_of_tiledL (run m c t).2.2.2.1 S512x512.size (by sl_kernel_rfl) y

/-- What they leave there. -/
def out_14 (c : Dev nD) (t : Fin cfg0.N) : Vec F S512x512 .f32 :=
  VO0_14.read (Elt F) (VO0_14.writes (Elt F) VO0_14.junk (run m c t).2.2.2.1)

/-- The stores of window 15, its values, cover its block. -/
theorem cover_15 (c : Dev nD) (t : Fin cfg0.N) (y : S512x256.Idx) : ∃ pc ∈ (run m c t).2.2.2.2.1, y ∈ pc.1.set :=
  View.cover_of_tiledL (run m c t).2.2.2.2.1 S512x256.size (by sl_kernel_rfl) y

/-- What they leave there. -/
def out_15 (c : Dev nD) (t : Fin cfg0.N) : Vec F S512x256 .bf16 :=
  VO0_15.read (Elt F) (VO0_15.writes (Elt F) VO0_15.junk (run m c t).2.2.2.2.1)

/-- The stores of window 16, its output gate, cover its block. -/
theorem cover_16 (c : Dev nD) (t : Fin cfg0.N) (y : S512x256.Idx) : ∃ pc ∈ (run m c t).2.2.2.2.2.1, y ∈ pc.1.set :=
  View.cover_of_tiledL (run m c t).2.2.2.2.2.1 S512x256.size (by sl_kernel_rfl) y

/-- What they leave there. -/
def out_16 (c : Dev nD) (t : Fin cfg0.N) : Vec F S512x256 .f32 :=
  VO0_16.read (Elt F) (VO0_16.writes (Elt F) VO0_16.junk (run m c t).2.2.2.2.2.1)

/-- The stores of window 17, its step gates, token by token, cover its block. -/
theorem cover_17 (c : Dev nD) (t : Fin cfg0.N) (y : S512x128.Idx) : ∃ pc ∈ (run m c t).2.2.2.2.2.2.1, y ∈ pc.1.set :=
  View.cover_of_tiledL (run m c t).2.2.2.2.2.2.1 S512x128.size (by sl_kernel_rfl) y

/-- What they leave there. -/
def out_17 (c : Dev nD) (t : Fin cfg0.N) : Vec F S512x128 .f32 :=
  VO0_17.read (Elt F) (VO0_17.writes (Elt F) VO0_17.junk (run m c t).2.2.2.2.2.2.1)

/-- The stores of window 18, the same, gate by gate, cover its block. -/
theorem cover_18 (c : Dev nD) (t : Fin cfg0.N) (y : S16x512.Idx) : ∃ pc ∈ (run m c t).2.2.2.2.2.2.2.1, y ∈ pc.1.set :=
  View.cover_of_tiledL (run m c t).2.2.2.2.2.2.2.1 S16x512.size (by sl_kernel_rfl) y

/-- What they leave there. -/
def out_18 (c : Dev nD) (t : Fin cfg0.N) : Vec F S16x512 .f32 :=
  VO0_18.read (Elt F) (VO0_18.writes (Elt F) VO0_18.junk (run m c t).2.2.2.2.2.2.2.1)

/-- The stores of window 19, the third mixer's queries, cover its block. -/
theorem cover_19 (c : Dev nD) (t : Fin cfg0.N) (y : S2x256x256.Idx) : ∃ pc ∈ (run m c t).2.2.2.2.2.2.2.2.1, y ∈ pc.1.set :=
  View.cover_of_tiledL (run m c t).2.2.2.2.2.2.2.2.1 S1x256x256.size (by sl_kernel_rfl) y

/-- What they leave there. -/
def out_19 (c : Dev nD) (t : Fin cfg0.N) : Vec F S2x256x256 .bf16 :=
  VO0_19.read (Elt F) (VO0_19.writes (Elt F) VO0_19.junk (run m c t).2.2.2.2.2.2.2.2.1)

/-- The stores of window 20, its keys, cover its block. -/
theorem cover_20 (c : Dev nD) (t : Fin cfg0.N) (y : S512x256.Idx) : ∃ pc ∈ (run m c t).2.2.2.2.2.2.2.2.2.1, y ∈ pc.1.set :=
  View.cover_of_tiledL (run m c t).2.2.2.2.2.2.2.2.2.1 S512x256.size (by sl_kernel_rfl) y

/-- What they leave there. -/
def out_20 (c : Dev nD) (t : Fin cfg0.N) : Vec F S512x256 .bf16 :=
  VO0_20.read (Elt F) (VO0_20.writes (Elt F) VO0_20.junk (run m c t).2.2.2.2.2.2.2.2.2.1)

/-- The stores of window 21, its values with a row of ones, cover its block. -/
theorem cover_21 (c : Dev nD) (t : Fin cfg0.N) (y : S2x320x256.Idx) : ∃ pc ∈ (run m c t).2.2.2.2.2.2.2.2.2.2.1, y ∈ pc.1.set :=
  View.cover_of_tiledBy (run m c t).2.2.2.2.2.2.2.2.2.2.1 ![1, 16, 256] (by sl_kernel_rfl) y

/-- What they leave there. -/
def out_21 (c : Dev nD) (t : Fin cfg0.N) : Vec F S2x320x256 .bf16 :=
  VO0_21.read (Elt F) (VO0_21.writes (Elt F) VO0_21.junk (run m c t).2.2.2.2.2.2.2.2.2.2.1)

/-- The stores of window 22, the fourth mixer's queries, cover its block. -/
theorem cover_22 (c : Dev nD) (t : Fin cfg0.N) (y : S2x256x256.Idx) : ∃ pc ∈ (run m c t).2.2.2.2.2.2.2.2.2.2.2.1, y ∈ pc.1.set :=
  View.cover_of_tiledL (run m c t).2.2.2.2.2.2.2.2.2.2.2.1 S1x256x256.size (by sl_kernel_rfl) y

/-- What they leave there. -/
def out_22 (c : Dev nD) (t : Fin cfg0.N) : Vec F S2x256x256 .bf16 :=
  VO0_22.read (Elt F) (VO0_22.writes (Elt F) VO0_22.junk (run m c t).2.2.2.2.2.2.2.2.2.2.2.1)

/-- The stores of window 23, its keys, cover its block. -/
theorem cover_23 (c : Dev nD) (t : Fin cfg0.N) (y : S512x256.Idx) : ∃ pc ∈ (run m c t).2.2.2.2.2.2.2.2.2.2.2.2.1, y ∈ pc.1.set :=
  View.cover_of_tiledL (run m c t).2.2.2.2.2.2.2.2.2.2.2.2.1 S512x256.size (by sl_kernel_rfl) y

/-- What they leave there. -/
def out_23 (c : Dev nD) (t : Fin cfg0.N) : Vec F S512x256 .bf16 :=
  VO0_23.read (Elt F) (VO0_23.writes (Elt F) VO0_23.junk (run m c t).2.2.2.2.2.2.2.2.2.2.2.2.1)

/-- The stores of window 24, its values, cover its block. -/
theorem cover_24 (c : Dev nD) (t : Fin cfg0.N) (y : S2x256x256.Idx) : ∃ pc ∈ (run m c t).2.2.2.2.2.2.2.2.2.2.2.2.2.1, y ∈ pc.1.set :=
  View.cover_of_tiledL (run m c t).2.2.2.2.2.2.2.2.2.2.2.2.2.1 S1x256x256.size (by sl_kernel_rfl) y

/-- What they leave there. -/
def out_24 (c : Dev nD) (t : Fin cfg0.N) : Vec F S2x256x256 .bf16 :=
  VO0_24.read (Elt F) (VO0_24.writes (Elt F) VO0_24.junk (run m c t).2.2.2.2.2.2.2.2.2.2.2.2.2.1)

end Cert.Kernel4Ideal.Proj

end
-- ==== Proof.ProjFrameIdeal.lean ====
module

public import proofs.«01_k».proof.Proof.ProjOutIdeal
public import Idealize.ShloMosaic.Lib.Pipeline.Value

/-!
# The run of the input projection, idealized

The pipeline's data at each of its 64 points, the body's obligation and the run of the whole call.
-/

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data on core `c`: each input's buffer holds its block at every point, each output's what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out_11 m c t
    | ⟨12, _⟩ => out_12 m c t
    | ⟨13, _⟩ => out_13 m c t
    | ⟨14, _⟩ => out_14 m c t
    | ⟨15, _⟩ => out_15 m c t
    | ⟨16, _⟩ => out_16 m c t
    | ⟨17, _⟩ => out_17 m c t
    | ⟨18, _⟩ => out_18 m c t
    | ⟨19, _⟩ => out_19 m c t
    | ⟨20, _⟩ => out_20 m c t
    | ⟨21, _⟩ => out_21 m c t
    | ⟨22, _⟩ => out_22 m c t
    | ⟨23, _⟩ => out_23 m c t
    | ⟨24, _⟩ => out_24 m c t
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = fullShare := by
  dsimp only [dats]

theorem Φ_eq (c : Dev nD) (t : Fin (cfg0.N + 1)) : (dats m 0 c).Φ t = Pipeline.ΦA spec0 c := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = out_11 m c t := by dsimp only [dats]
theorem after_12 (c : Dev nD) (t : Fin cfg0.N) : (dats m 0 c).after 12 t = out_12 m c t := by dsimp only [dats]
theorem after_13 (c : Dev nD) (t : Fin cfg0.N) : (dats m 0 c).after 13 t = out_13 m c t := by dsimp only [dats]
theorem after_14 (c : Dev nD) (t : Fin cfg0.N) : (dats m 0 c).after 14 t = out_14 m c t := by dsimp only [dats]
theorem after_15 (c : Dev nD) (t : Fin cfg0.N) : (dats m 0 c).after 15 t = out_15 m c t := by dsimp only [dats]
theorem after_16 (c : Dev nD) (t : Fin cfg0.N) : (dats m 0 c).after 16 t = out_16 m c t := by dsimp only [dats]
theorem after_17 (c : Dev nD) (t : Fin cfg0.N) : (dats m 0 c).after 17 t = out_17 m c t := by dsimp only [dats]
theorem after_18 (c : Dev nD) (t : Fin cfg0.N) : (dats m 0 c).after 18 t = out_18 m c t := by dsimp only [dats]
theorem after_19 (c : Dev nD) (t : Fin cfg0.N) : (dats m 0 c).after 19 t = out_19 m c t := by dsimp only [dats]
theorem after_20 (c : Dev nD) (t : Fin cfg0.N) : (dats m 0 c).after 20 t = out_20 m c t := by dsimp only [dats]
theorem after_21 (c : Dev nD) (t : Fin cfg0.N) : (dats m 0 c).after 21 t = out_21 m c t := by dsimp only [dats]
theorem after_22 (c : Dev nD) (t : Fin cfg0.N) : (dats m 0 c).after 22 t = out_22 m c t := by dsimp only [dats]
theorem after_23 (c : Dev nD) (t : Fin cfg0.N) : (dats m 0 c).after 23 t = out_23 m c t := by dsimp only [dats]
theorem after_24 (c : Dev nD) (t : Fin cfg0.N) : (dats m 0 c).after 24 t = out_24 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

theorem leaves_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (ms0_11 t) fullShare (out_11 m c t) := by
  unfold Dat.leavesExact; rw [show cfg0.idle 11 (grid0.coords t) = false from rfl, after_11]
theorem leaves_12 (c : Dev nD) (t : Fin cfg0.N) : (dats m 0 c).leavesExact 12 t = owns (c : Thread nD τ) (ms0_12 t) fullShare (out_12 m c t) := by
  unfold Dat.leavesExact; rw [show cfg0.idle 12 (grid0.coords t) = false from rfl, after_12]
theorem leaves_13 (c : Dev nD) (t : Fin cfg0.N) : (dats m 0 c).leavesExact 13 t = owns (c : Thread nD τ) (ms0_13 t) fullShare (out_13 m c t) := by
  unfold Dat.leavesExact; rw [show cfg0.idle 13 (grid0.coords t) = false from rfl, after_13]
theorem leaves_14 (c : Dev nD) (t : Fin cfg0.N) : (dats m 0 c).leavesExact 14 t = owns (c : Thread nD τ) (ms0_14 t) fullShare (out_14 m c t) := by
  unfold Dat.leavesExact; rw [show cfg0.idle 14 (grid0.coords t) = false from rfl, after_14]
theorem leaves_15 (c : Dev nD) (t : Fin cfg0.N) : (dats m 0 c).leavesExact 15 t = owns (c : Thread nD τ) (ms0_15 t) fullShare (out_15 m c t) := by
  unfold Dat.leavesExact; rw [show cfg0.idle 15 (grid0.coords t) = false from rfl, after_15]
theorem leaves_16 (c : Dev nD) (t : Fin cfg0.N) : (dats m 0 c).leavesExact 16 t = owns (c : Thread nD τ) (ms0_16 t) fullShare (out_16 m c t) := by
  unfold Dat.leavesExact; rw [show cfg0.idle 16 (grid0.coords t) = false from rfl, after_16]
theorem leaves_17 (c : Dev nD) (t : Fin cfg0.N) : (dats m 0 c).leavesExact 17 t = owns (c : Thread nD τ) (ms0_17 t) fullShare (out_17 m c t) := by
  unfold Dat.leavesExact; rw [show cfg0.idle 17 (grid0.coords t) = false from rfl, after_17]
theorem leaves_18 (c : Dev nD) (t : Fin cfg0.N) : (dats m 0 c).leavesExact 18 t = owns (c : Thread nD τ) (ms0_18 t) fullShare (out_18 m c t) := by
  unfold Dat.leavesExact; rw [show cfg0.idle 18 (grid0.coords t) = false from rfl, after_18]
theorem leaves_19 (c : Dev nD) (t : Fin cfg0.N) : (dats m 0 c).leavesExact 19 t = owns (c : Thread nD τ) (ms0_19 t) fullShare (out_19 m c t) := by
  unfold Dat.leavesExact; rw [show cfg0.idle 19 (grid0.coords t) = false from rfl, after_19]
theorem leaves_20 (c : Dev nD) (t : Fin cfg0.N) : (dats m 0 c).leavesExact 20 t = owns (c : Thread nD τ) (ms0_20 t) fullShare (out_20 m c t) := by
  unfold Dat.leavesExact; rw [show cfg0.idle 20 (grid0.coords t) = false from rfl, after_20]
theorem leaves_21 (c : Dev nD) (t : Fin cfg0.N) : (dats m 0 c).leavesExact 21 t = owns (c : Thread nD τ) (ms0_21 t) fullShare (out_21 m c t) := by
  unfold Dat.leavesExact; rw [show cfg0.idle 21 (grid0.coords t) = false from rfl, after_21]
theorem leaves_22 (c : Dev nD) (t : Fin cfg0.N) : (dats m 0 c).leavesExact 22 t = owns (c : Thread nD τ) (ms0_22 t) fullShare (out_22 m c t) := by
  unfold Dat.leavesExact; rw [show cfg0.idle 22 (grid0.coords t) = false from rfl, after_22]
theorem leaves_23 (c : Dev nD) (t : Fin cfg0.N) : (dats m 0 c).leavesExact 23 t = owns (c : Thread nD τ) (ms0_23 t) fullShare (out_23 m c t) := by
  unfold Dat.leavesExact; rw [show cfg0.idle 23 (grid0.coords t) = false from rfl, after_23]
theorem leaves_24 (c : Dev nD) (t : Fin cfg0.N) : (dats m 0 c).leavesExact 24 t = owns (c : Thread nD τ) (ms0_24 t) fullShare (out_24 m c t) := by
  unfold Dat.leavesExact; rw [show cfg0.idle 24 (grid0.coords t) = false from rfl, after_24]

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What it returns there. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 2400000 in
/-- The body at any point: its run applies, and its stores cover the blocks. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
  rw [show (dats m 0 c).Φ t.succ = (dats m 0 c).Φ t.castSucc from rfl,
    show (dats m 0 c).owesAt () t.succ = (dats m 0 c).owesAt () t.castSucc from rfl]
  unfold out_11 out_12 out_13 out_14 out_15 out_16 out_17 out_18 out_19 out_20 out_21 out_22 out_23 out_24
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((run m c t).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover_11 m c t)
  isplitl [H12]
  · unfold owns; iexists _; isplitr
    swap; · iexact H12
    ipureintro; exact View.read_writes_of_cover _ _ _ _ _ (cover_12 m c t)
  isplitl [H13]
  · unfold owns; iexists _; isplitr
    swap; · iexact H13
    ipureintro; exact View.read_writes_of_cover _ _ _ _ _ (cover_13 m c t)
  isplitl [H14]
  · unfold owns; iexists _; isplitr
    swap; · iexact H14
    ipureintro; exact View.read_writes_of_cover _ _ _ _ _ (cover_14 m c t)
  isplitl [H15]
  · unfold owns; iexists _; isplitr
    swap; · iexact H15
    ipureintro; exact View.read_writes_of_cover _ _ _ _ _ (cover_15 m c t)
  isplitl [H16]
  · unfold owns; iexists _; isplitr
    swap; · iexact H16
    ipureintro; exact View.read_writes_of_cover _ _ _ _ _ (cover_16 m c t)
  isplitl [H17]
  · unfold owns; iexists _; isplitr
    swap; · iexact H17
    ipureintro; exact View.read_writes_of_cover _ _ _ _ _ (cover_17 m c t)
  isplitl [H18]
  · unfold owns; iexists _; isplitr
    swap; · iexact H18
    ipureintro; exact View.read_writes_of_cover _ _ _ _ _ (cover_18 m c t)
  isplitl [H19]
  · unfold owns; iexists _; isplitr
    swap; · iexact H19
    ipureintro; exact View.read_writes_of_cover _ _ _ _ _ (cover_19 m c t)
  isplitl [H20]
  · unfold owns; iexists _; isplitr
    swap; · iexact H20
    ipureintro; exact View.read_writes_of_cover _ _ _ _ _ (cover_20 m c t)
  isplitl [H21]
  · unfold owns; iexists _; isplitr
    swap; · iexact H21
    ipureintro; exact View.read_writes_of_cover _ _ _ _ _ (cover_21 m c t)
  isplitl [H22]
  · unfold owns; iexists _; isplitr
    swap; · iexact H22
    ipureintro; exact View.read_writes_of_cover _ _ _ _ _ (cover_22 m c t)
  isplitl [H23]
  · unfold owns; iexists _; isplitr
    swap; · iexact H23
    ipureintro; exact View.read_writes_of_cover _ _ _ _ _ (cover_23 m c t)
  unfold owns; iexists _; isplitr
  swap; · iexact H24
  ipureintro; exact View.read_writes_of_cover _ _ _ _ _ (cover_24 m c t)

theorem defs_row (t : Fin cfg0.N) :
    defs₀ (F := F) .tc cfg0.body (cfg0.bodyArgs t (cfg0.slots t)) = bodyAt0 t := by
  unfold defs₀; rw [Defs.onTc_tc]

set_option maxHeartbeats 2400000 in
/-- The library's obligation on the body, at every point. -/
theorem obligation (c : Dev nD) : BodyObligation (dats (F := F) m 0 c) (defs₀ (F := F)) Variants.none () Set.univ := fun t => by
  rw [bigSep_W0, bigSep_W0, defs_row]
  exact triple_restated (body m c t) rfl .rfl fun _ => .rfl

set_option backward.isDefEq.respectTransparency.types false in
/-- Every execution ends, with the pipeline's arrays at what its data say and every counter at zero. -/
theorem run_zero : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full (q_eq m c))
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_zero m ρ)

/-- The frame: every execution ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_zero m ρ))

/-- The run with the seven result arrays named, the arguments unchanged. -/
theorem run_value : θ_run defs (onTc (τ := τ) (main (F := F))) ⟨m, fun _ => 0, ρ⟩ fun r => ∀ c : Dev nD,
      r.2.mem ((c : Thread nD τ).loc main_v54_2) = (dats m 0 c).arrAt 13 cfg0.N
      ∧ r.2.mem ((c : Thread nD τ).loc main_v54_3) = (dats m 0 c).arrAt 14 cfg0.N
      ∧ r.2.mem ((c : Thread nD τ).loc main_v54_4) = (dats m 0 c).arrAt 15 cfg0.N
      ∧ r.2.mem ((c : Thread nD τ).loc main_v54_5) = (dats m 0 c).arrAt 16 cfg0.N
      ∧ r.2.mem ((c : Thread nD τ).loc main_v54_11) = (dats m 0 c).arrAt 22 cfg0.N
      ∧ r.2.mem ((c : Thread nD τ).loc main_v54_12) = (dats m 0 c).arrAt 23 cfg0.N
      ∧ r.2.mem ((c : Thread nD τ).loc main_v54_13) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 13,
      (h c).1 14,
      (h c).1 15,
      (h c).1 16,
      (h c).1 22,
      (h c).1 23,
      (h c).1 24,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel4Ideal.Proj

end
-- ==== Proof.ProjHost.lean ====
module

public import proofs.«01_k».proof.Proof.Gen.Kernel4Ideal.Frame.Runs
public import Idealize.ShloMosaic.Lib.Pointwise
public import Idealize.ShloMosaic.Lib.Pipeline.ValueKit
public import Idealize.ShloMosaic.Lib.StableHlo.RunRead

/-!
# The projection's host arrays

The host sorts the matrix's columns: those whose products are wanted token by token, and, turned, those whose products
are wanted feature by feature.
-/

@[expose] public section

set_option maxRecDepth 16384
noncomputable section
open Idealize.ShloMosaic Idealize.ShloMosaic.TcCoe Idealize.SL.Sem

namespace Cert.Kernel4Ideal.Value
open Cert.Kernel4Ideal Cert.Kernel4Ideal.Gen

/-- The columns taken token by token. -/
def MAIN (w : FVec Ideal S1024x3336 .f32) : FVec Ideal S1024x1792 .bf16 :=
  truncf .bf16 (concatenate S1024x1792 1 [⟨S1024x256, (extractStridedSlice S1024x256 ![0, 256] w slices_S1024x3336_S1024x256_0_256)⟩, ⟨S1024x512, (extractStridedSlice S1024x512 ![0, 768] w slices_S1024x3336_S1024x512_0_768)⟩, ⟨S1024x256, (extractStridedSlice S1024x256 ![0, 1280] w slices_S1024x3336_S1024x256_0_1280)⟩, ⟨S1024x256, (extractStridedSlice S1024x256 ![0, 1536] w slices_S1024x3336_S1024x256_0_1536)⟩, ⟨S1024x256, (extractStridedSlice S1024x256 ![0, 2056] w slices_S1024x3336_S1024x256_0_2056)⟩, ⟨S1024x256, (extractStridedSlice S1024x256 ![0, 2824] w slices_S1024x3336_S1024x256_0_2824)⟩]
    concatenates_S1024x256_S1024x512_S1024x256_S1024x256_S1024x256_S1024x256_S1024x1792_d1) bitsLt_bf16_f32

/-- The gates' eight columns, side by side. -/
def GATES (w : FVec Ideal S1024x3336 .f32) : FVec Ideal S1024x8 .f32 :=
  concatenate S1024x8 1 [⟨S1024x4, (extractStridedSlice S1024x4 ![0, 1792] w slices_S1024x3336_S1024x4_0_1792)⟩, ⟨S1024x4, (extractStridedSlice S1024x4 ![0, 1796] w slices_S1024x3336_S1024x4_0_1796)⟩] concatenates_S1024x4_S1024x4_S1024x8_d1

/-- The gates' columns turned, with eight rows of zeros below. -/
def GROWS (w : FVec Ideal S1024x3336 .f32) : FVec Ideal S16x1024 .f32 :=
  pad S16x1024 ![0, 0] ![8, 0] ![0, 0] (transpose S8x1024 [1, 0] (GATES w) transposes_S1024x8_S8x1024_1_0) (sitofp .f32 (constantI S_ 32 0#32)) pads_S8x1024_S16x1024_080_000 h_S_

/-- The columns taken feature by feature, turned into rows. -/
def TURN (w : FVec Ideal S1024x3336 .f32) : FVec Ideal S1552x1024 .bf16 :=
  truncf .bf16 (concatenate S1552x1024 0 [⟨S256x1024, transpose S256x1024 [1, 0] (extractStridedSlice S1024x256 ![0, 1800] w slices_S1024x3336_S1024x256_0_1800) transposes_S1024x256_S256x1024_1_0⟩, ⟨S256x1024, transpose S256x1024 [1, 0] (extractStridedSlice S1024x256 ![0, 2312] w slices_S1024x3336_S1024x256_0_2312) transposes_S1024x256_S256x1024_1_0⟩, ⟨S256x1024, transpose S256x1024 [1, 0] (extractStridedSlice S1024x256 ![0, 2568] w slices_S1024x3336_S1024x256_0_2568) transposes_S1024x256_S256x1024_1_0⟩, ⟨S256x1024, transpose S256x1024 [1, 0] (extractStridedSlice S1024x256 ![0, 3080] w slices_S1024x3336_S1024x256_0_3080) transposes_S1024x256_S256x1024_1_0⟩, ⟨S256x1024, transpose S256x1024 [1, 0] (extractStridedSlice S1024x256 ![0, 0] w slices_S1024x3336_S1024x256_0_0) transposes_S1024x256_S256x1024_1_0⟩, ⟨S256x1024, transpose S256x1024 [1, 0] (extractStridedSlice S1024x256 ![0, 512] w slices_S1024x3336_S1024x256_0_512) transposes_S1024x256_S256x1024_1_0⟩, ⟨S16x1024, GROWS w⟩]
    concatenates_S256x1024_S256x1024_S256x1024_S256x1024_S256x1024_S256x1024_S16x1024_S1552x1024_d0) bitsLt_bf16_f32

section
variable (m : (ℓ : Loc nD τ sig) → Buf (Elt Ideal) ℓ)

/-- The tokens. -/
theorem v34_eq (c : Dev nD) : V m c main_v34 = shapeCast S32768x1024 (m ((c : Thread nD τ).loc main_arg0)) shapeCasts_S2x16384x1024_S32768x1024 := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  all_goals rfl

/-- The gains. -/
theorem v53_eq (c : Dev nD) : V m c main_v53 = shapeCast S1x1024 (m ((c : Thread nD τ).loc main_arg1)) shapeCasts_S1024_S1x1024 := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  all_goals rfl

/-- The columns taken token by token. -/
theorem v15_eq (c : Dev nD) : V m c main_v15 = MAIN (m ((c : Thread nD τ).loc main_arg2)) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  all_goals rfl

/-- The columns taken feature by feature. -/
theorem v28_eq (c : Dev nD) : V m c main_v28 = TURN (m ((c : Thread nD τ).loc main_arg2)) := by
  unfold_abbrev_sides
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  all_goals rfl
end

/-- Segment 0 of the columns taken token by token. -/
theorem main_256 (w : FVec Ideal S1024x3336 .f32) (k : Fin 1024) (j : Fin 256) : MAIN w (ix2 k ⟨0 + j.val, by omega⟩) = w (ix2 k ⟨256 + j.val, by omega⟩) := by
  pointwise [MAIN]
  all_goals have hj := j.isLt
  all_goals repeat' split
  all_goals first | omega | (refine congrArg (fun t => w (ix2 k t)) (Fin.ext ?_); simp only []; omega)

/-- Segment 1 of the columns taken token by token. -/
theorem main_768 (w : FVec Ideal S1024x3336 .f32) (k : Fin 1024) (j : Fin 512) : MAIN w (ix2 k ⟨256 + j.val, by omega⟩) = w (ix2 k ⟨768 + j.val, by omega⟩) := by
  pointwise [MAIN]
  all_goals have hj := j.isLt
  all_goals repeat' split
  all_goals first | omega | (refine congrArg (fun t => w (ix2 k t)) (Fin.ext ?_); simp only []; omega)

/-- Segment 2 of the columns taken token by token. -/
theorem main_1280 (w : FVec Ideal S1024x3336 .f32) (k : Fin 1024) (j : Fin 256) : MAIN w (ix2 k ⟨768 + j.val, by omega⟩) = w (ix2 k ⟨1280 + j.val, by omega⟩) := by
  pointwise [MAIN]
  all_goals have hj := j.isLt
  all_goals repeat' split
  all_goals first | omega | (refine congrArg (fun t => w (ix2 k t)) (Fin.ext ?_); simp only []; omega)

/-- Segment 3 of the columns taken token by token. -/
theorem main_1536 (w : FVec Ideal S1024x3336 .f32) (k : Fin 1024) (j : Fin 256) : MAIN w (ix2 k ⟨1024 + j.val, by omega⟩) = w (ix2 k ⟨1536 + j.val, by omega⟩) := by
  pointwise [MAIN]
  all_goals have hj := j.isLt
  all_goals repeat' split
  all_goals first | omega | (refine congrArg (fun t => w (ix2 k t)) (Fin.ext ?_); simp only []; omega)

/-- Segment 4 of the columns taken token by token. -/
theorem main_2056 (w : FVec Ideal S1024x3336 .f32) (k : Fin 1024) (j : Fin 256) : MAIN w (ix2 k ⟨1280 + j.val, by omega⟩) = w (ix2 k ⟨2056 + j.val, by omega⟩) := by
  pointwise [MAIN]
  all_goals have hj := j.isLt
  all_goals repeat' split
  all_goals first | omega | (refine congrArg (fun t => w (ix2 k t)) (Fin.ext ?_); simp only []; omega)

/-- Segment 5 of the columns taken token by token. -/
theorem main_2824 (w : FVec Ideal S1024x3336 .f32) (k : Fin 1024) (j : Fin 256) : MAIN w (ix2 k ⟨1536 + j.val, by omega⟩) = w (ix2 k ⟨2824 + j.val, by omega⟩) := by
  pointwise [MAIN]
  all_goals have hj := j.isLt
  all_goals repeat' split
  all_goals first | omega | (refine congrArg (fun t => w (ix2 k t)) (Fin.ext ?_); simp only []; omega)

/-- Segment 0 of the columns taken feature by feature. -/
theorem turn_1800 (w : FVec Ideal S1024x3336 .f32) (k : Fin 1024) (j : Fin 256) : TURN w (ix2 ⟨0 + j.val, by omega⟩ k) = w (ix2 k ⟨1800 + j.val, by omega⟩) := by
  pointwise [TURN]
  all_goals have hj := j.isLt
  all_goals repeat' split
  all_goals first | omega | (refine congrArg (fun t => w (ix2 k t)) (Fin.ext ?_); simp only []; omega)

/-- Segment 1 of the columns taken feature by feature. -/
theorem turn_2312 (w : FVec Ideal S1024x3336 .f32) (k : Fin 1024) (j : Fin 256) : TURN w (ix2 ⟨256 + j.val, by omega⟩ k) = w (ix2 k ⟨2312 + j.val, by omega⟩) := by
  pointwise [TURN]
  all_goals have hj := j.isLt
  all_goals repeat' split
  all_goals first | omega | (refine congrArg (fun t => w (ix2 k t)) (Fin.ext ?_); simp only []; omega)

/-- Segment 2 of the columns taken feature by feature. -/
theorem turn_2568 (w : FVec Ideal S1024x3336 .f32) (k : Fin 1024) (j : Fin 256) : TURN w (ix2 ⟨512 + j.val, by omega⟩ k) = w (ix2 k ⟨2568 + j.val, by omega⟩) := by
  pointwise [TURN]
  all_goals have hj := j.isLt
  all_goals repeat' split
  all_goals first | omega | (refine congrArg (fun t => w (ix2 k t)) (Fin.ext ?_); simp only []; omega)

/-- Segment 3 of the columns taken feature by feature. -/
theorem turn_3080 (w : FVec Ideal S1024x3336 .f32) (k : Fin 1024) (j : Fin 256) : TURN w (ix2 ⟨768 + j.val, by omega⟩ k) = w (ix2 k ⟨3080 + j.val, by omega⟩) := by
  pointwise [TURN]
  all_goals have hj := j.isLt
  all_goals repeat' split
  all_goals first | omega | (refine congrArg (fun t => w (ix2 k t)) (Fin.ext ?_); simp only []; omega)

/-- Segment 4 of the columns taken feature by feature. -/
theorem turn_0 (w : FVec Ideal S1024x3336 .f32) (k : Fin 1024) (j : Fin 256) : TURN w (ix2 ⟨1024 + j.val, by omega⟩ k) = w (ix2 k ⟨0 + j.val, by omega⟩) := by
  pointwise [TURN]
  all_goals have hj := j.isLt
  all_goals repeat' split
  all_goals first | omega | (refine congrArg (fun t => w (ix2 k t)) (Fin.ext ?_); simp only []; omega)

/-- Segment 5 of the columns taken feature by feature. -/
theorem turn_512 (w : FVec Ideal S1024x3336 .f32) (k : Fin 1024) (j : Fin 256) : TURN w (ix2 ⟨1280 + j.val, by omega⟩ k) = w (ix2 k ⟨512 + j.val, by omega⟩) := by
  pointwise [TURN]
  all_goals have hj := j.isLt
  all_goals repeat' split
  all_goals first | omega | (refine congrArg (fun t => w (ix2 k t)) (Fin.ext ?_); simp only []; omega)

end Cert.Kernel4Ideal.Value
end
-- ==== Proof.Rows.lean ====
module

public import Idealize.ShloMosaic.Lib.Pointwise

/-!
# One row of the feed-forward block

The layer's feed-forward block acts on every token by itself: it takes the token's row of 1024 numbers,
scales it by its root mean square, sends it through two 1024 × 2816 matrices, gates the one product by the
other, comes back through a 2816 × 1024 matrix and adds half of that to the row.  This file writes this as
functions of one row over the extended reals, and shows that a sum over the 2816 hidden units may be taken
in eleven runs of 256, which is how the kernels take it.
-/

@[expose] public section

noncomputable section
open Idealize.ShloMosaic

namespace Rows

/-- The row `x` over its root mean square, times the gains `g`.  The two literals are 1024 and the
    small number under the root. -/
def norm (x g : Fin 1024 → EReal) (k : Fin 1024) : EReal :=
  x k * Ideal.rsqrt (Ideal.div (∑ l, x l * x l) (Ideal.ofBits .f32 0x44800000#32)
    + Ideal.ofBits .f32 0x358637BD#32) * g k

/-- The inner product of a row with column `f` of a matrix. -/
def dot {K N : ℕ} (x : Fin K → EReal) (w : Fin K → Fin N → EReal) (f : Fin N) : EReal :=
  ∑ k, x k * w k f

/-- Hidden unit `f`: the gate's value times its logistic value, times the other product. -/
def hid (x : Fin 1024 → EReal) (wg wu : Fin 1024 → Fin 2816 → EReal) (f : Fin 2816) : EReal :=
  dot x wg f * Ideal.logistic (dot x wg f) * dot x wu f

/-- The row after the block: the row and half of what the hidden units give. -/
def res (x g : Fin 1024 → EReal) (wg wu : Fin 1024 → Fin 2816 → EReal)
    (wd : Fin 2816 → Fin 1024 → EReal) (j : Fin 1024) : EReal :=
  x j + Ideal.ofBits .f32 0x3F000000#32 * ∑ f, hid (norm x g) wg wu f * wd f j

/-- The row `x` and what the four mixers' rows of 256 give through a 1024 × 1024 matrix, each through its
    own 256 rows of it. -/
def mix (x : Fin 1024 → EReal) (a b c d : Fin 256 → EReal) (w : Fin 1024 → Fin 1024 → EReal) (j : Fin 1024) : EReal :=
  x j + (∑ k : Fin 256, a k * w ⟨k.val, by omega⟩ j + (∑ k : Fin 256, b k * w ⟨256 + k.val, by omega⟩ j
    + (∑ k : Fin 256, c k * w ⟨512 + k.val, by omega⟩ j + ∑ k : Fin 256, d k * w ⟨768 + k.val, by omega⟩ j)))

/-- If the first `n` of `n + 256` terms sum to `A`, all of them sum to `A` and the last 256. -/
theorem sum_last {n N : ℕ} (hN : N = n + 256) (F : Fin N → EReal) {A : EReal}
    (hA : ∑ f : Fin n, F ⟨f.val, by omega⟩ = A) :
    ∑ f, F f = A + ∑ x : Fin 256, F ⟨n + x.val, by omega⟩ := by
  subst hN hA
  exact Fin.sum_univ_add F

/-- The sum over the 2816 hidden units in eleven runs of 256, from the first to the last. -/
theorem sum_runs (F : Fin 2816 → EReal) :
    ∑ f, F f = ∑ x : Fin 256, F ⟨x.val, by omega⟩ + ∑ x : Fin 256, F ⟨256 + x.val, by omega⟩
      + ∑ x : Fin 256, F ⟨512 + x.val, by omega⟩ + ∑ x : Fin 256, F ⟨768 + x.val, by omega⟩
      + ∑ x : Fin 256, F ⟨1024 + x.val, by omega⟩ + ∑ x : Fin 256, F ⟨1280 + x.val, by omega⟩
      + ∑ x : Fin 256, F ⟨1536 + x.val, by omega⟩ + ∑ x : Fin 256, F ⟨1792 + x.val, by omega⟩
      + ∑ x : Fin 256, F ⟨2048 + x.val, by omega⟩ + ∑ x : Fin 256, F ⟨2304 + x.val, by omega⟩
      + ∑ x : Fin 256, F ⟨2560 + x.val, by omega⟩ :=
  sum_last rfl F (sum_last rfl _ (sum_last rfl _ (sum_last rfl _ (sum_last rfl _ (sum_last rfl _ (sum_last rfl _
    (sum_last rfl _ (sum_last rfl _ (sum_last rfl _ rfl)))))))))

/-- A row of 1024 made of four rows of 256 side by side, against a column: one sum for each of the four. -/
theorem sum_side (a b c d : Fin 256 → EReal) (w : Fin 1024 → EReal) :
    ∑ x : Fin 1024, (if h : x.val < 256 then a ⟨x.val, h⟩ else if h : x.val - 256 < 256 then b ⟨x.val - 256, h⟩
        else if h : x.val - 256 - 256 < 256 then c ⟨x.val - 256 - 256, h⟩
        else d ⟨x.val - 256 - 256 - 256, by omega⟩) * w x
      = ∑ k : Fin 256, a k * w ⟨k.val, by omega⟩ + (∑ k : Fin 256, b k * w ⟨256 + k.val, by omega⟩
        + (∑ k : Fin 256, c k * w ⟨512 + k.val, by omega⟩ + ∑ k : Fin 256, d k * w ⟨768 + k.val, by omega⟩)) := by
  rw [← add_assoc, ← add_assoc]
  refine (sum_last (n := 768) rfl _ (sum_last (n := 512) rfl _ (sum_last (n := 256) rfl _ rfl))).trans ?_
  refine congrArg₂ _ (congrArg₂ _ (congrArg₂ _ ?_ ?_) ?_) ?_ <;> refine Finset.sum_congr rfl fun x _ => ?_
  · rw [dif_pos x.isLt]
  · rw [dif_neg (by simp only []; omega), dif_pos (by simp only []; omega)]
    simp only [Nat.add_sub_cancel_left]
  · rw [dif_neg (by simp only []; omega), dif_neg (by simp only []; omega), dif_pos (by simp only []; omega)]
    simp only [show 512 + x.val - 256 - 256 = x.val by omega]
  · rw [dif_neg (by simp only []; omega), dif_neg (by simp only []; omega), dif_neg (by simp only []; omega)]
    simp only [show 768 + x.val - 256 - 256 - 256 = x.val by omega]

end Rows
end
-- ==== Proof.ProjPay.lean ====
module

public import proofs.«01_k».proof.Proof.ProjHost
public import proofs.«01_k».proof.Proof.Rows

/-!
# The projection's stored values

What the body computes from its blocks: products of the normalised rows with the matrix's columns.
-/

@[expose] public section

set_option maxRecDepth 16384
noncomputable section
open Idealize.ShloMosaic Idealize.ShloMosaic.TcCoe Idealize.SL.Sem

namespace Cert.Kernel4Ideal.Value
open Cert.Kernel4Ideal Cert.Kernel4Ideal.Gen

/-- The normalised block, row by row. -/
theorem norm_at (x0 : FVec Ideal S512x1024 .f32) (x1 : FVec Ideal S1x1024 .f32) (r : Fin 512) (k : Fin 1024) :
    k0_pay6 (F := Ideal) x0 x1 (ix2 r k) = Rows.norm (fun k => x0 (ix2 r k)) (fun k => x1 (ix2 (0 : Fin 1) k)) k := by
  pointwise! [k0_pay6, Rows.norm]

/-- The second mixer's queries and keys. -/
theorem bqk_pay (v : FVec Ideal S512x1024 .bf16) (w : FVec Ideal S1024x512 .bf16) (r j : Fin 512) :
    k0_pay25 (F := Ideal) v (k0_pay24 (F := Ideal) w) (ix2 r j) = ∑ k, v (ix2 r k) * w (ix2 k j) := by
  pointwise! [k0_pay25, k0_pay24]

/-- The second mixer's values. -/
theorem bv_pay (v : FVec Ideal S512x1024 .bf16) (w : FVec Ideal S1024x256 .bf16) (r : Fin 512) (j : Fin 256) :
    k0_pay26 (F := Ideal) v w (ix2 r j) = ∑ k, v (ix2 r k) * w (ix2 k j) := by
  pointwise! [k0_pay26]

/-- The second mixer's output gate. -/
theorem bo_pay (v : FVec Ideal S512x1024 .bf16) (w : FVec Ideal S1024x256 .bf16) (r : Fin 512) (j : Fin 256) :
    k0_pay27 (F := Ideal) v w (ix2 r j) = Ideal.logistic (∑ k, v (ix2 r k) * w (ix2 k j)) := by
  pointwise! [k0_pay27]

/-- The fourth mixer's keys. -/
theorem dk_pay (v : FVec Ideal S512x1024 .bf16) (w : FVec Ideal S1024x256 .bf16) (r : Fin 512) (j : Fin 256) :
    k0_pay48 (F := Ideal) v w (ix2 r j) = ∑ k, v (ix2 r k) * w (ix2 k j) := by
  pointwise! [k0_pay48]

/-- The turned products. -/
theorem turn_pay (x0 : FVec Ideal S512x1024 .f32) (x1 : FVec Ideal S1x1024 .f32) (x3 : FVec Ideal S1552x1024 .bf16) (a : Fin 1552) (r : Fin 512) :
    k0_pay7 (F := Ideal) x0 x1 x3 (ix2 a r) = ∑ k, x3 (ix2 a k) * k0_pay6 (F := Ideal) x0 x1 (ix2 r k) := by
  unfold k0_pay7
  generalize k0_pay6 (F := Ideal) x0 x1 = v
  pointwise! []

section
variable (v : FVec Ideal S1552x512 .f32) (d e : Fin 256)

/-- The first mixer's values, first tile. -/
theorem av_pay0 : k0_pay52 (F := Ideal) (k0_pay23 (F := Ideal) v) (ix3 (0 : Fin 1) d e) = v (ix2 ⟨1280 + d.val, by omega⟩ ⟨0 + e.val, by omega⟩) := by
  pointwise! [k0_pay52, k0_pay23]

/-- The first mixer's values, second tile. -/
theorem av_pay1 : k0_pay67 (F := Ideal) (k0_pay23 (F := Ideal) v) (ix3 (0 : Fin 1) d e) = v (ix2 ⟨1280 + d.val, by omega⟩ ⟨256 + e.val, by omega⟩) := by
  pointwise! [k0_pay67, k0_pay23]

/-- The fourth mixer's queries, first tile. -/
theorem dq_pay0 : k0_pay54 (F := Ideal) v (ix3 (0 : Fin 1) d e) = v (ix2 ⟨512 + d.val, by omega⟩ ⟨0 + e.val, by omega⟩) := by
  pointwise! [k0_pay54, k0_pay49]

/-- The fourth mixer's queries, second tile. -/
theorem dq_pay1 : k0_pay69 (F := Ideal) (k0_pay49 (F := Ideal) v) (ix3 (0 : Fin 1) d e) = v (ix2 ⟨512 + d.val, by omega⟩ ⟨256 + e.val, by omega⟩) := by
  pointwise! [k0_pay69, k0_pay49]

/-- The fourth mixer's values, first tile. -/
theorem dv_pay0 : k0_pay55 (F := Ideal) v (ix3 (0 : Fin 1) d e) = v (ix2 ⟨768 + d.val, by omega⟩ ⟨0 + e.val, by omega⟩) := by
  pointwise! [k0_pay55, k0_pay50]

/-- The fourth mixer's values, second tile. -/
theorem dv_pay1 : k0_pay70 (F := Ideal) (k0_pay50 (F := Ideal) v) (ix3 (0 : Fin 1) d e) = v (ix2 ⟨768 + d.val, by omega⟩ ⟨256 + e.val, by omega⟩) := by
  pointwise! [k0_pay70, k0_pay50]
end

end Cert.Kernel4Ideal.Value
end
-- ==== Proof.ProjRef.lean ====
module

public import proofs.«01_k».proof.Proof.Gen.Reference4Ideal.Run
public import proofs.«01_k».proof.Proof.Rows
public import Idealize.ShloMosaic.Lib.Pointwise

/-!
# The reference's input projection

Every token's row, scaled by its root mean square, through a 1024 × 3336 matrix; each result takes its own columns.
-/

@[expose] public section

set_option maxRecDepth 16384
noncomputable section
open Idealize.ShloMosaic Idealize.ShloMosaic.TcCoe Idealize.SL.Sem

namespace Cert.Reference4Ideal.Value
open Cert.Reference4Ideal Cert.Reference4Ideal.Gen

/-- All the columns of the projection. -/
def PROJ (X : FVec Ideal S2x16384x1024 .f32) (g : FVec Ideal S1024 .f32) (w : FVec Ideal S1024x3336 .f32) : FVec Ideal S2x16384x3336 .f32 :=
  Host.dotGeneral dot_S2x16384x1024_S1024x3336_S2x16384x3336_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) w

/-- The token of number `i`, scaled by its root mean square. -/
def TOK (X : FVec Ideal S2x16384x1024 .f32) (g : FVec Ideal S1024 .f32) (i : Fin 32768) : Fin 1024 → EReal :=
  Rows.norm (fun k => X (ix3 (⟨i.val / 16384, by omega⟩ : Fin 2) (⟨i.val % 16384, by omega⟩ : Fin 16384) k)) (fun k => g (ix1 k))

/-- One column of the projection of one token. -/
def COL (X : FVec Ideal S2x16384x1024 .f32) (g : FVec Ideal S1024 .f32) (w : FVec Ideal S1024x3336 .f32) (i : Fin 32768) (j : Fin 3336) : EReal :=
  ∑ k, TOK X g i k * w (ix2 k j)

/-- A column of the projection of a token. -/
theorem proj_at (X : FVec Ideal S2x16384x1024 .f32) (g : FVec Ideal S1024 .f32) (w : FVec Ideal S1024x3336 .f32) (n : Fin 2) (s : Fin 16384) (j : Fin 3336) (i : Fin 32768)
    (hi : i.val = n.val * 16384 + s.val) : PROJ X g w (ix3 n s j) = COL X g w i j := by
  have hn : (⟨i.val / 16384, by omega⟩ : Fin 2) = n := Fin.ext (by show i.val / 16384 = n.val; omega)
  have hs : (⟨i.val % 16384, by omega⟩ : Fin 16384) = s := Fin.ext (by show i.val % 16384 = s.val; omega)
  unfold COL TOK
  rw [hn, hs]
  pointwise [PROJ, Rows.norm]

/-- The values of the chunk attention, in tiles of 256 tokens with the features first. -/
def AV (X : FVec Ideal S2x16384x1024 .f32) (g : FVec Ideal S1024 .f32) (w : FVec Ideal S1024x3336 .f32) : FVec Ideal S128x256x256 .bf16 :=
  truncf .bf16 (transpose S128x256x256 [0, 2, 1] (shapeCast S128x256x256 (extractStridedSlice S2x16384x256 ![0, 0, 512] (PROJ X g w) slices_S2x16384x3336_S2x16384x256_0_0_512) shapeCasts_S2x16384x256_S128x256x256) transposes_S128x256x256_S128x256x256_0_2_1) bitsLt_bf16_f32

/-- Tile `a`, feature `d`, token `e`. -/
theorem av_at (X : FVec Ideal S2x16384x1024 .f32) (g : FVec Ideal S1024 .f32) (w : FVec Ideal S1024x3336 .f32) (a : Fin 128) (d e : Fin 256) (i : Fin 32768) (hi : i.val = a.val * 256 + e.val) :
    AV X g w (ix3 a d e) = COL X g w i ⟨512 + d.val, by omega⟩ := by
  rw [← proj_at X g w ⟨i.val / 16384, by omega⟩ ⟨i.val % 16384, by omega⟩ _ i (by show i.val = i.val / 16384 * 16384 + i.val % 16384; omega)]
  have ha := a.isLt
  pointwise [AV]
  refine congrArg _ ?_
  funext q
  fin_cases q <;> refine Fin.ext ?_ <;> simp <;> omega

/-- The queries of the stick-breaking attention, in tiles of 256 tokens with the features first. -/
def DQ (X : FVec Ideal S2x16384x1024 .f32) (g : FVec Ideal S1024 .f32) (w : FVec Ideal S1024x3336 .f32) : FVec Ideal S128x256x256 .bf16 :=
  truncf .bf16 (transpose S128x256x256 [0, 2, 1] (shapeCast S128x256x256 (extractStridedSlice S2x16384x256 ![0, 0, 2568] (PROJ X g w) slices_S2x16384x3336_S2x16384x256_0_0_2568) shapeCasts_S2x16384x256_S128x256x256) transposes_S128x256x256_S128x256x256_0_2_1) bitsLt_bf16_f32

/-- Tile `a`, feature `d`, token `e`. -/
theorem dq_at (X : FVec Ideal S2x16384x1024 .f32) (g : FVec Ideal S1024 .f32) (w : FVec Ideal S1024x3336 .f32) (a : Fin 128) (d e : Fin 256) (i : Fin 32768) (hi : i.val = a.val * 256 + e.val) :
    DQ X g w (ix3 a d e) = COL X g w i ⟨2568 + d.val, by omega⟩ := by
  rw [← proj_at X g w ⟨i.val / 16384, by omega⟩ ⟨i.val % 16384, by omega⟩ _ i (by show i.val = i.val / 16384 * 16384 + i.val % 16384; omega)]
  have ha := a.isLt
  pointwise [DQ]
  refine congrArg _ ?_
  funext q
  fin_cases q <;> refine Fin.ext ?_ <;> simp <;> omega

/-- The values of the stick-breaking attention, in tiles of 256 tokens with the features first. -/
def DV (X : FVec Ideal S2x16384x1024 .f32) (g : FVec Ideal S1024 .f32) (w : FVec Ideal S1024x3336 .f32) : FVec Ideal S128x256x256 .bf16 :=
  truncf .bf16 (transpose S128x256x256 [0, 2, 1] (shapeCast S128x256x256 (extractStridedSlice S2x16384x256 ![0, 0, 3080] (PROJ X g w) slices_S2x16384x3336_S2x16384x256_0_0_3080) shapeCasts_S2x16384x256_S128x256x256) transposes_S128x256x256_S128x256x256_0_2_1) bitsLt_bf16_f32

/-- Tile `a`, feature `d`, token `e`. -/
theorem dv_at (X : FVec Ideal S2x16384x1024 .f32) (g : FVec Ideal S1024 .f32) (w : FVec Ideal S1024x3336 .f32) (a : Fin 128) (d e : Fin 256) (i : Fin 32768) (hi : i.val = a.val * 256 + e.val) :
    DV X g w (ix3 a d e) = COL X g w i ⟨3080 + d.val, by omega⟩ := by
  rw [← proj_at X g w ⟨i.val / 16384, by omega⟩ ⟨i.val % 16384, by omega⟩ _ i (by show i.val = i.val / 16384 * 16384 + i.val % 16384; omega)]
  have ha := a.isLt
  pointwise [DV]
  refine congrArg _ ?_
  funext q
  fin_cases q <;> refine Fin.ext ?_ <;> simp <;> omega

/-- The mLSTM's queries and keys. -/
def BQK (X : FVec Ideal S2x16384x1024 .f32) (g : FVec Ideal S1024 .f32) (w : FVec Ideal S1024x3336 .f32) : FVec Ideal S32768x512 .f32 :=
  shapeCast S32768x512 (extractStridedSlice S2x16384x512 ![0, 0, 768] (PROJ X g w) slices_S2x16384x3336_S2x16384x512_0_0_768) shapeCasts_S2x16384x512_S32768x512

/-- Token `i`, feature `j`. -/
theorem bqk_at (X : FVec Ideal S2x16384x1024 .f32) (g : FVec Ideal S1024 .f32) (w : FVec Ideal S1024x3336 .f32) (i : Fin 32768) (j : Fin 512) :
    BQK X g w (ix2 i j) = COL X g w i ⟨768 + j.val, by omega⟩ := by
  rw [← proj_at X g w ⟨i.val / 16384, by omega⟩ ⟨i.val % 16384, by omega⟩ _ i (by show i.val = i.val / 16384 * 16384 + i.val % 16384; omega)]
  pointwise [BQK]

/-- The mLSTM's values. -/
def BV (X : FVec Ideal S2x16384x1024 .f32) (g : FVec Ideal S1024 .f32) (w : FVec Ideal S1024x3336 .f32) : FVec Ideal S32768x256 .bf16 :=
  truncf .bf16 (shapeCast S32768x256 (extractStridedSlice S2x16384x256 ![0, 0, 1280] (PROJ X g w) slices_S2x16384x3336_S2x16384x256_0_0_1280) shapeCasts_S2x16384x256_S32768x256) bitsLt_bf16_f32

/-- Token `i`, feature `j`. -/
theorem bv_at (X : FVec Ideal S2x16384x1024 .f32) (g : FVec Ideal S1024 .f32) (w : FVec Ideal S1024x3336 .f32) (i : Fin 32768) (j : Fin 256) :
    BV X g w (ix2 i j) = COL X g w i ⟨1280 + j.val, by omega⟩ := by
  rw [← proj_at X g w ⟨i.val / 16384, by omega⟩ ⟨i.val % 16384, by omega⟩ _ i (by show i.val = i.val / 16384 * 16384 + i.val % 16384; omega)]
  pointwise [BV]

/-- The keys of the stick-breaking attention. -/
def DK (X : FVec Ideal S2x16384x1024 .f32) (g : FVec Ideal S1024 .f32) (w : FVec Ideal S1024x3336 .f32) : FVec Ideal S32768x256 .bf16 :=
  truncf .bf16 (shapeCast S32768x256 (extractStridedSlice S2x16384x256 ![0, 0, 2824] (PROJ X g w) slices_S2x16384x3336_S2x16384x256_0_0_2824) shapeCasts_S2x16384x256_S32768x256) bitsLt_bf16_f32

/-- Token `i`, feature `j`. -/
theorem dk_at (X : FVec Ideal S2x16384x1024 .f32) (g : FVec Ideal S1024 .f32) (w : FVec Ideal S1024x3336 .f32) (i : Fin 32768) (j : Fin 256) :
    DK X g w (ix2 i j) = COL X g w i ⟨2824 + j.val, by omega⟩ := by
  rw [← proj_at X g w ⟨i.val / 16384, by omega⟩ ⟨i.val % 16384, by omega⟩ _ i (by show i.val = i.val / 16384 * 16384 + i.val % 16384; omega)]
  pointwise [DK]

/-- The mLSTM's output gates. -/
def BO (X : FVec Ideal S2x16384x1024 .f32) (g : FVec Ideal S1024 .f32) (w : FVec Ideal S1024x3336 .f32) : FVec Ideal S32768x256 .f32 :=
  shapeCast S32768x256 (Host.divf (broadcastInDim S2x16384x256 ![] bcast_S_S2x16384x256 (constant S_ .f32 0x3F800000#32)) (addf (broadcastInDim S2x16384x256 ![] bcast_S_S2x16384x256 (constant S_ .f32 0x3F800000#32)) (Host.exp (Host.negf (extractStridedSlice S2x16384x256 ![0, 0, 1536] (PROJ X g w) slices_S2x16384x3336_S2x16384x256_0_0_1536))))) shapeCasts_S2x16384x256_S32768x256

/-- Token `i`, feature `j`. -/
theorem bo_at (X : FVec Ideal S2x16384x1024 .f32) (g : FVec Ideal S1024 .f32) (w : FVec Ideal S1024x3336 .f32) (i : Fin 32768) (j : Fin 256) :
    BO X g w (ix2 i j) = Ideal.logistic (COL X g w i ⟨1536 + j.val, by omega⟩) := by
  rw [← proj_at X g w ⟨i.val / 16384, by omega⟩ ⟨i.val % 16384, by omega⟩ _ i (by show i.val = i.val / 16384 * 16384 + i.val % 16384; omega)]
  pointwise [BO]
  rfl

end Cert.Reference4Ideal.Value
end
-- ==== Proof.ProjBlocks.lean ====
module

public import proofs.«01_k».proof.Proof.ProjPay
public import proofs.«01_k».proof.Proof.ProjRef

/-!
# What the projection's windows hold at each grid point
-/

@[expose] public section

set_option maxRecDepth 16384
noncomputable section
open Idealize.ShloMosaic Idealize.ShloMosaic.TcCoe Idealize.SL.Sem

namespace Cert.Kernel4Ideal.Value
open Cert.Kernel4Ideal Cert.Kernel4Ideal.Gen
open Cert.Reference4Ideal.Value (TOK COL)
/-- The tokens, laid out in one run. -/
theorem flat_at (X : FVec Ideal S2x16384x1024 .f32) (i : Fin 32768) (k : Fin 1024) :
    shapeCast S32768x1024 X shapeCasts_S2x16384x1024_S32768x1024 (ix2 i k) = X (ix3 (⟨i.val / 16384, by omega⟩ : Fin 2) (⟨i.val % 16384, by omega⟩ : Fin 16384) k) := by
  pointwise []

/-- A row's product with a column the matrix's block holds. -/
theorem row_col (X : FVec Ideal S2x16384x1024 .f32) (g : FVec Ideal S1024 .f32) (w : FVec Ideal S1024x3336 .f32) (v : FVec Ideal S512x1024 .bf16) (r : Fin 512)
    (u : Fin 1024 → EReal) (i : Fin 32768) (j : Fin 3336) (hv : ∀ k, v (ix2 r k) = TOK X g i k) (hu : ∀ k, u k = w (ix2 k j)) :
    ∑ k, v (ix2 r k) * u k = COL X g w i j := by
  unfold COL
  exact Finset.sum_congr rfl fun k _ => congrArg₂ _ (hv k) (hu k)

variable (m : (ℓ : Loc nD τ sig) → Buf (Elt Ideal) ℓ)

/-- The block indices of the windows that are read. -/
theorem idx_in : ∀ t : Fin cfg0.N, win0_0.index t = ![t.val, 0] ∧ win0_1.index t = ![0, 0] ∧ win0_2.index t = ![0, 0] ∧ win0_3.index t = ![0, 0] :=
  (by decide +kernel : ∀ t : Fin grid0.N, _)

/-- The block indices of the windows that are stored. -/
theorem idx_out : ∀ t : Fin cfg0.N, win0_13.index t = ![t.val, 0, 0] ∧ win0_14.index t = ![t.val, 0] ∧ win0_15.index t = ![t.val, 0]
    ∧ win0_16.index t = ![t.val, 0] ∧ win0_22.index t = ![t.val, 0, 0] ∧ win0_23.index t = ![t.val, 0] ∧ win0_24.index t = ![t.val, 0, 0] :=
  (by decide +kernel : ∀ t : Fin grid0.N, _)

/-- The tokens' block. -/
theorem blk_x (c : Dev nD) (t : Fin cfg0.N) (r : Fin 512) (k : Fin 1024) (i : Fin 32768) (hi : i.val = t.val * 512 + r.val) :
    iblk m c 0 t (ix2 r k) = m ((c : Thread nD τ).loc main_arg0) (ix3 (⟨i.val / 16384, by omega⟩ : Fin 2) (⟨i.val % 16384, by omega⟩ : Fin 16384) k) := by
  have ht : t.val < 64 := t.isLt
  unfold iblk
  rw [show V m c (Pipeline.arrRef spec0 0) = shapeCast S32768x1024 (m ((c : Thread nD τ).loc main_arg0)) shapeCasts_S2x16384x1024_S32768x1024 from v34_eq m c]
  refine Eq.trans ?_ (flat_at (m ((c : Thread nD τ).loc main_arg0)) i k)
  blk_ext [idx_in t]

/-- The gains' block. -/
theorem blk_g (c : Dev nD) (t : Fin cfg0.N) (k : Fin 1024) :
    iblk m c 1 t (ix2 (0 : Fin 1) k) = m ((c : Thread nD τ).loc main_arg1) (ix1 k) := by
  have ht : t.val < 64 := t.isLt
  unfold iblk
  rw [show V m c (Pipeline.arrRef spec0 1) = shapeCast S1x1024 (m ((c : Thread nD τ).loc main_arg1)) shapeCasts_S1024_S1x1024 from v53_eq m c]
  have e : shapeCast S1x1024 (m ((c : Thread nD τ).loc main_arg1)) shapeCasts_S1024_S1x1024 (ix2 (0 : Fin 1) k)
      = m ((c : Thread nD τ).loc main_arg1) (ix1 k) := by
    pointwise []
  refine Eq.trans ?_ e
  blk_ext [idx_in t]

/-- The matrix's block. -/
theorem blk_w (c : Dev nD) (t : Fin cfg0.N) (k : Fin 1024) (j : Fin 1792) :
    iblk m c 2 t (ix2 k j) = MAIN (m ((c : Thread nD τ).loc main_arg2)) (ix2 k j) := by
  unfold iblk
  rw [show V m c (Pipeline.arrRef spec0 2) = MAIN (m ((c : Thread nD τ).loc main_arg2)) from v15_eq m c]
  generalize MAIN (m ((c : Thread nD τ).loc main_arg2)) = M
  blk_ext [idx_in t]

/-- The turned matrix's block. -/
theorem blk_t (c : Dev nD) (t : Fin cfg0.N) (j : Fin 1552) (k : Fin 1024) :
    iblk m c 3 t (ix2 j k) = TURN (m ((c : Thread nD τ).loc main_arg2)) (ix2 j k) := by
  unfold iblk
  rw [show V m c (Pipeline.arrRef spec0 3) = TURN (m ((c : Thread nD τ).loc main_arg2)) from v28_eq m c]
  generalize TURN (m ((c : Thread nD τ).loc main_arg2)) = M
  blk_ext [idx_in t]

/-- A block's normalised rows are the tokens'. -/
theorem blk_tok (c : Dev nD) (t : Fin cfg0.N) (r : Fin 512) (k : Fin 1024) (i : Fin 32768) (hi : i.val = t.val * 512 + r.val) :
    k0_pay6 (F := Ideal) (iblk m c 0 t) (iblk m c 1 t) (ix2 r k) = TOK (m ((c : Thread nD τ).loc main_arg0)) (m ((c : Thread nD τ).loc main_arg1)) i k := by
  rw [norm_at]
  unfold TOK
  refine congrArg₂ (fun u v => Rows.norm u v k) (funext fun l => ?_) (funext fun l => ?_)
  · exact blk_x m c t r l i hi
  · exact blk_g m c t l

/-- A turned product. -/
theorem turn_col (c : Dev nD) (t : Fin cfg0.N) (a : Fin 1552) (r : Fin 512) (i : Fin 32768) (j : Fin 3336) (hi : i.val = t.val * 512 + r.val)
    (hu : ∀ k, TURN (m ((c : Thread nD τ).loc main_arg2)) (ix2 a k) = m ((c : Thread nD τ).loc main_arg2) (ix2 k j)) :
    k0_pay7 (F := Ideal) (iblk m c 0 t) (iblk m c 1 t) (iblk m c 3 t) (ix2 a r)
      = COL (m ((c : Thread nD τ).loc main_arg0)) (m ((c : Thread nD τ).loc main_arg1)) (m ((c : Thread nD τ).loc main_arg2)) i j := by
  rw [turn_pay]
  unfold COL
  refine Finset.sum_congr rfl fun k _ => ?_
  rw [blk_t, hu, blk_tok m c t r k i hi]
  exact mul_comm _ _

end Cert.Kernel4Ideal.Value
end
-- ==== Proof.ProjRows.lean ====
module

public import proofs.«01_k».proof.Proof.ProjOutIdeal
public import proofs.«01_k».proof.Proof.ProjBlocks

/-!
# What a point of the projection stores

The results that lie token by token.
-/

@[expose] public section

set_option maxRecDepth 16384
noncomputable section
open Idealize.ShloMosaic Idealize.ShloMosaic.TcCoe Idealize.SL.Sem

namespace Cert.Kernel4Ideal.Proj
open Cert.Kernel4Ideal Cert.Kernel4Ideal.Gen Cert.Kernel4Ideal.Value
open Cert.Reference4Ideal.Value (TOK COL)
variable (m : (ℓ : Loc nD τ sig) → Buf (Elt Ideal) ℓ)

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The second mixer's queries and keys, from any blocks that hold what they should. -/
theorem bqk_of (X : FVec Ideal S2x16384x1024 .f32) (g : FVec Ideal S1024 .f32) (w : FVec Ideal S1024x3336 .f32) (t : ℕ) (y : S512x512.Idx) (i : Fin 32768) (jj : Fin 3336) (hi : i.val = t * 512 + (y 0).val) (hj : jj.val = 768 + (y 1).val)
    (nf : ∀ (r : Fin 512) (k : Fin 1024) (i : Fin 32768), i.val = t * 512 + r.val → k0_pay6 (F := Ideal) x0 x1 (ix2 r k) = TOK X g i k)
    (wf : ∀ (k : Fin 1024) (j : Fin 1792), x2 (ix2 k j) = MAIN w (ix2 k j)) :
    VO0_14.read (Elt Ideal) (VO0_14.writes (Elt Ideal) VO0_14.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.2.1) y = COL X g w i jj := by
  unfold kernelRun0_A
  dsimp only
  frame_out
  obtain ⟨r, cc, rfl⟩ : ∃ (r : Fin 512) (cc : Fin 512), y = ix2 r cc := ⟨y 0, y 1, (eq_ix2 y)⟩
  have hl : 768 + cc.val < 3336 := by have := cc.isLt; omega
  have ej : (⟨768 + cc.val, hl⟩ : Fin 3336) = jj := Fin.ext hj.symm
  refine (bqk_pay _ _ _ _).trans ?_
  refine row_col X g w _ r _ i jj (fun k => nf r k i hi) (fun k => ?_)
  refine Eq.trans ?_ ((wf k ⟨256 + cc.val, by omega⟩).trans ((main_768 w k cc).trans (congrArg (fun j => w (ix2 k j)) ej)))
  pointwise []
end

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The second mixer's values, from any blocks that hold what they should. -/
theorem bv_of (X : FVec Ideal S2x16384x1024 .f32) (g : FVec Ideal S1024 .f32) (w : FVec Ideal S1024x3336 .f32) (t : ℕ) (y : S512x256.Idx) (i : Fin 32768) (jj : Fin 3336) (hi : i.val = t * 512 + (y 0).val) (hj : jj.val = 1280 + (y 1).val)
    (nf : ∀ (r : Fin 512) (k : Fin 1024) (i : Fin 32768), i.val = t * 512 + r.val → k0_pay6 (F := Ideal) x0 x1 (ix2 r k) = TOK X g i k)
    (wf : ∀ (k : Fin 1024) (j : Fin 1792), x2 (ix2 k j) = MAIN w (ix2 k j)) :
    VO0_15.read (Elt Ideal) (VO0_15.writes (Elt Ideal) VO0_15.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.2.2.1) y = COL X g w i jj := by
  unfold kernelRun0_A
  dsimp only
  frame_out
  obtain ⟨r, cc, rfl⟩ : ∃ (r : Fin 512) (cc : Fin 256), y = ix2 r cc := ⟨y 0, y 1, (eq_ix2 y)⟩
  have hl : 1280 + cc.val < 3336 := by have := cc.isLt; omega
  have ej : (⟨1280 + cc.val, hl⟩ : Fin 3336) = jj := Fin.ext hj.symm
  refine (bv_pay _ _ _ _).trans ?_
  refine row_col X g w _ r _ i jj (fun k => nf r k i hi) (fun k => ?_)
  refine Eq.trans ?_ ((wf k ⟨768 + cc.val, by omega⟩).trans ((main_1280 w k cc).trans (congrArg (fun j => w (ix2 k j)) ej)))
  pointwise []
end

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The second mixer's output gate, from any blocks that hold what they should. -/
theorem bo_of (X : FVec Ideal S2x16384x1024 .f32) (g : FVec Ideal S1024 .f32) (w : FVec Ideal S1024x3336 .f32) (t : ℕ) (y : S512x256.Idx) (i : Fin 32768) (jj : Fin 3336) (hi : i.val = t * 512 + (y 0).val) (hj : jj.val = 1536 + (y 1).val)
    (nf : ∀ (r : Fin 512) (k : Fin 1024) (i : Fin 32768), i.val = t * 512 + r.val → k0_pay6 (F := Ideal) x0 x1 (ix2 r k) = TOK X g i k)
    (wf : ∀ (k : Fin 1024) (j : Fin 1792), x2 (ix2 k j) = MAIN w (ix2 k j)) :
    VO0_16.read (Elt Ideal) (VO0_16.writes (Elt Ideal) VO0_16.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.2.2.2.1) y = Ideal.logistic (COL X g w i jj) := by
  unfold kernelRun0_A
  dsimp only
  frame_out
  obtain ⟨r, cc, rfl⟩ : ∃ (r : Fin 512) (cc : Fin 256), y = ix2 r cc := ⟨y 0, y 1, (eq_ix2 y)⟩
  have hl : 1536 + cc.val < 3336 := by have := cc.isLt; omega
  have ej : (⟨1536 + cc.val, hl⟩ : Fin 3336) = jj := Fin.ext hj.symm
  refine (bo_pay _ _ _ _).trans ?_
  refine congrArg Ideal.logistic ?_
  refine row_col X g w _ r _ i jj (fun k => nf r k i hi) (fun k => ?_)
  refine Eq.trans ?_ ((wf k ⟨1024 + cc.val, by omega⟩).trans ((main_1536 w k cc).trans (congrArg (fun j => w (ix2 k j)) ej)))
  pointwise []
end

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The fourth mixer's keys, from any blocks that hold what they should. -/
theorem dk_of (X : FVec Ideal S2x16384x1024 .f32) (g : FVec Ideal S1024 .f32) (w : FVec Ideal S1024x3336 .f32) (t : ℕ) (y : S512x256.Idx) (i : Fin 32768) (jj : Fin 3336) (hi : i.val = t * 512 + (y 0).val) (hj : jj.val = 2824 + (y 1).val)
    (nf : ∀ (r : Fin 512) (k : Fin 1024) (i : Fin 32768), i.val = t * 512 + r.val → k0_pay6 (F := Ideal) x0 x1 (ix2 r k) = TOK X g i k)
    (wf : ∀ (k : Fin 1024) (j : Fin 1792), x2 (ix2 k j) = MAIN w (ix2 k j)) :
    VO0_23.read (Elt Ideal) (VO0_23.writes (Elt Ideal) VO0_23.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.2.2.2.2.2.2.2.2.2.2.1) y = COL X g w i jj := by
  unfold kernelRun0_A
  dsimp only
  frame_out
  obtain ⟨r, cc, rfl⟩ : ∃ (r : Fin 512) (cc : Fin 256), y = ix2 r cc := ⟨y 0, y 1, (eq_ix2 y)⟩
  have hl : 2824 + cc.val < 3336 := by have := cc.isLt; omega
  have ej : (⟨2824 + cc.val, hl⟩ : Fin 3336) = jj := Fin.ext hj.symm
  refine (dk_pay _ _ _ _).trans ?_
  refine row_col X g w _ r _ i jj (fun k => nf r k i hi) (fun k => ?_)
  refine Eq.trans ?_ ((wf k ⟨1536 + cc.val, by omega⟩).trans ((main_2824 w k cc).trans (congrArg (fun j => w (ix2 k j)) ej)))
  pointwise []
end

end Cert.Kernel4Ideal.Proj
end
-- ==== Proof.ProjTiles.lean ====
module

public import proofs.«01_k».proof.Proof.ProjOutIdeal
public import proofs.«01_k».proof.Proof.ProjBlocks

/-!
# What a point of the projection stores

The results that lie feature by feature, in tiles of 256 tokens.
-/

@[expose] public section

set_option maxRecDepth 16384
noncomputable section
open Idealize.ShloMosaic Idealize.ShloMosaic.TcCoe Idealize.SL.Sem

namespace Cert.Kernel4Ideal.Proj
open Cert.Kernel4Ideal Cert.Kernel4Ideal.Gen Cert.Kernel4Ideal.Value
open Cert.Reference4Ideal.Value (TOK COL)
variable (m : (ℓ : Loc nD τ sig) → Buf (Elt Ideal) ℓ)

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The first mixer's values, from any blocks that hold what they should. -/
theorem av_of (X : FVec Ideal S2x16384x1024 .f32) (g : FVec Ideal S1024 .f32) (w : FVec Ideal S1024x3336 .f32) (t : ℕ) (y : S2x256x256.Idx) (i : Fin 32768) (jj : Fin 3336) (hi : i.val = t * 512 + (y 0).val * 256 + (y 2).val) (hj : jj.val = 512 + (y 1).val)
    (tf : ∀ (a : Fin 1552) (r : Fin 512) (i : Fin 32768) (j : Fin 3336), i.val = t * 512 + r.val → (∀ k, TURN w (ix2 a k) = w (ix2 k j)) → k0_pay7 (F := Ideal) x0 x1 x3 (ix2 a r) = COL X g w i j) :
    VO0_13.read (Elt Ideal) (VO0_13.writes (Elt Ideal) VO0_13.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.1) y = COL X g w i jj := by
  unfold kernelRun0_A
  dsimp only
  frame_out
  canon_tiles x h
  · obtain ⟨z, d, e, rfl⟩ : ∃ (z : Fin 1) (d e : Fin 256), x = ix3 z d e := ⟨x 0, x 1, x 2, (eq_ix3 x)⟩
    have hz : z = 0 := Subsingleton.elim _ _
    subst hz
    have e0 : (y 0).val = 1 := h0
    have e1 : (y 1).val = d.val := h1
    have e2 : (y 2).val = e.val := h2
    have hl : 512 + d.val < 3336 := by have := d.isLt; omega
    have ej : (⟨512 + d.val, hl⟩ : Fin 3336) = jj := Fin.ext (by show 512 + d.val = jj.val; omega)
    refine (av_pay1 _ d e).trans (tf _ _ i jj (by simp only; omega) (fun k => (turn_512 w k d).trans (congrArg (fun j => w (ix2 k j)) ej)))
  · obtain ⟨z, d, e, rfl⟩ : ∃ (z : Fin 1) (d e : Fin 256), x = ix3 z d e := ⟨x 0, x 1, x 2, (eq_ix3 x)⟩
    have hz : z = 0 := Subsingleton.elim _ _
    subst hz
    have e0 : (y 0).val = 0 := h0
    have e1 : (y 1).val = d.val := h1
    have e2 : (y 2).val = e.val := h2
    have hl : 512 + d.val < 3336 := by have := d.isLt; omega
    have ej : (⟨512 + d.val, hl⟩ : Fin 3336) = jj := Fin.ext (by show 512 + d.val = jj.val; omega)
    refine (av_pay0 _ d e).trans (tf _ _ i jj (by simp only; omega) (fun k => (turn_512 w k d).trans (congrArg (fun j => w (ix2 k j)) ej)))
end

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The fourth mixer's queries, from any blocks that hold what they should. -/
theorem dq_of (X : FVec Ideal S2x16384x1024 .f32) (g : FVec Ideal S1024 .f32) (w : FVec Ideal S1024x3336 .f32) (t : ℕ) (y : S2x256x256.Idx) (i : Fin 32768) (jj : Fin 3336) (hi : i.val = t * 512 + (y 0).val * 256 + (y 2).val) (hj : jj.val = 2568 + (y 1).val)
    (tf : ∀ (a : Fin 1552) (r : Fin 512) (i : Fin 32768) (j : Fin 3336), i.val = t * 512 + r.val → (∀ k, TURN w (ix2 a k) = w (ix2 k j)) → k0_pay7 (F := Ideal) x0 x1 x3 (ix2 a r) = COL X g w i j) :
    VO0_22.read (Elt Ideal) (VO0_22.writes (Elt Ideal) VO0_22.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.2.2.2.2.2.2.2.2.2.1) y = COL X g w i jj := by
  unfold kernelRun0_A
  dsimp only
  frame_out
  canon_tiles x h
  · obtain ⟨z, d, e, rfl⟩ : ∃ (z : Fin 1) (d e : Fin 256), x = ix3 z d e := ⟨x 0, x 1, x 2, (eq_ix3 x)⟩
    have hz : z = 0 := Subsingleton.elim _ _
    subst hz
    have e0 : (y 0).val = 1 := h0
    have e1 : (y 1).val = d.val := h1
    have e2 : (y 2).val = e.val := h2
    have hl : 2568 + d.val < 3336 := by have := d.isLt; omega
    have ej : (⟨2568 + d.val, hl⟩ : Fin 3336) = jj := Fin.ext (by show 2568 + d.val = jj.val; omega)
    refine (dq_pay1 _ d e).trans (tf _ _ i jj (by simp only; omega) (fun k => (turn_2568 w k d).trans (congrArg (fun j => w (ix2 k j)) ej)))
  · obtain ⟨z, d, e, rfl⟩ : ∃ (z : Fin 1) (d e : Fin 256), x = ix3 z d e := ⟨x 0, x 1, x 2, (eq_ix3 x)⟩
    have hz : z = 0 := Subsingleton.elim _ _
    subst hz
    have e0 : (y 0).val = 0 := h0
    have e1 : (y 1).val = d.val := h1
    have e2 : (y 2).val = e.val := h2
    have hl : 2568 + d.val < 3336 := by have := d.isLt; omega
    have ej : (⟨2568 + d.val, hl⟩ : Fin 3336) = jj := Fin.ext (by show 2568 + d.val = jj.val; omega)
    refine (dq_pay0 _ d e).trans (tf _ _ i jj (by simp only; omega) (fun k => (turn_2568 w k d).trans (congrArg (fun j => w (ix2 k j)) ej)))
end

section
variable (c : Dev nD) (q : grid0.Coords) (a0 : Memref sig .tc .vmem S512x1024 .f32) (b0 : a0.IsWhole) (a1 : Memref sig .tc .vmem S1x1024 .f32) (b1 : a1.IsWhole) (a2 : Memref sig .tc .vmem S1024x1792 .bf16) (b2 : a2.IsWhole) (a3 : Memref sig .tc .vmem S1552x1024 .bf16) (b3 : a3.IsWhole) (a4 : Memref sig .tc .vmem S1024x128 .bf16) (b4 : a4.IsWhole) (a5 : Memref sig .tc .vmem S1x128 .f32) (b5 : a5.IsWhole) (a6 : Memref sig .tc .vmem S16x1 .f32) (b6 : a6.IsWhole) (a7 : Memref sig .tc .vmem S256x1 .f32) (b7 : a7.IsWhole) (a8 : Memref sig .tc .vmem S1x256 .f32) (b8 : a8.IsWhole) (a9 : Memref sig .tc .vmem S256x1 .f32) (b9 : a9.IsWhole) (a10 : Memref sig .tc .vmem S1x256 .f32) (b10 : a10.IsWhole) (a11 : Memref sig .tc .vmem S2x256x256 .bf16) (b11 : a11.IsWhole) (a12 : Memref sig .tc .vmem S512x256 .bf16) (b12 : a12.IsWhole) (a13 : Memref sig .tc .vmem S2x256x256 .bf16) (b13 : a13.IsWhole) (a14 : Memref sig .tc .vmem S512x512 .f32) (b14 : a14.IsWhole) (a15 : Memref sig .tc .vmem S512x256 .bf16) (b15 : a15.IsWhole) (a16 : Memref sig .tc .vmem S512x256 .f32) (b16 : a16.IsWhole) (a17 : Memref sig .tc .vmem S512x128 .f32) (b17 : a17.IsWhole) (a18 : Memref sig .tc .vmem S16x512 .f32) (b18 : a18.IsWhole) (a19 : Memref sig .tc .vmem S2x256x256 .bf16) (b19 : a19.IsWhole) (a20 : Memref sig .tc .vmem S512x256 .bf16) (b20 : a20.IsWhole) (a21 : Memref sig .tc .vmem S2x320x256 .bf16) (b21 : a21.IsWhole) (a22 : Memref sig .tc .vmem S2x256x256 .bf16) (b22 : a22.IsWhole) (a23 : Memref sig .tc .vmem S512x256 .bf16) (b23 : a23.IsWhole) (a24 : Memref sig .tc .vmem S2x256x256 .bf16) (b24 : a24.IsWhole)
  (x0 : Vec Ideal S512x1024 .f32) (x1 : Vec Ideal S1x1024 .f32) (x2 : Vec Ideal S1024x1792 .bf16) (x3 : Vec Ideal S1552x1024 .bf16) (x4 : Vec Ideal S1024x128 .bf16) (x5 : Vec Ideal S1x128 .f32) (x6 : Vec Ideal S16x1 .f32) (x7 : Vec Ideal S256x1 .f32) (x8 : Vec Ideal S1x256 .f32) (x9 : Vec Ideal S256x1 .f32) (x10 : Vec Ideal S1x256 .f32)

/-- The fourth mixer's values, from any blocks that hold what they should. -/
theorem dv_of (X : FVec Ideal S2x16384x1024 .f32) (g : FVec Ideal S1024 .f32) (w : FVec Ideal S1024x3336 .f32) (t : ℕ) (y : S2x256x256.Idx) (i : Fin 32768) (jj : Fin 3336) (hi : i.val = t * 512 + (y 0).val * 256 + (y 2).val) (hj : jj.val = 3080 + (y 1).val)
    (tf : ∀ (a : Fin 1552) (r : Fin 512) (i : Fin 32768) (j : Fin 3336), i.val = t * 512 + r.val → (∀ k, TURN w (ix2 a k) = w (ix2 k j)) → k0_pay7 (F := Ideal) x0 x1 x3 (ix2 a r) = COL X g w i j) :
    VO0_24.read (Elt Ideal) (VO0_24.writes (Elt Ideal) VO0_24.junk (kernelRun0_A (F := Ideal) c q a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 x0 x1 x2 x3 x4 x5 x6 x7 x8 x9 x10).2.2.2.2.2.2.2.2.2.2.2.2.2.1) y = COL X g w i jj := by
  unfold kernelRun0_A
  dsimp only
  frame_out
  canon_tiles x h
  · obtain ⟨z, d, e, rfl⟩ : ∃ (z : Fin 1) (d e : Fin 256), x = ix3 z d e := ⟨x 0, x 1, x 2, (eq_ix3 x)⟩
    have hz : z = 0 := Subsingleton.elim _ _
    subst hz
    have e0 : (y 0).val = 1 := h0
    have e1 : (y 1).val = d.val := h1
    have e2 : (y 2).val = e.val := h2
    have hl : 3080 + d.val < 3336 := by have := d.isLt; omega
    have ej : (⟨3080 + d.val, hl⟩ : Fin 3336) = jj := Fin.ext (by show 3080 + d.val = jj.val; omega)
    refine (dv_pay1 _ d e).trans (tf _ _ i jj (by simp only; omega) (fun k => (turn_3080 w k d).trans (congrArg (fun j => w (ix2 k j)) ej)))
  · obtain ⟨z, d, e, rfl⟩ : ∃ (z : Fin 1) (d e : Fin 256), x = ix3 z d e := ⟨x 0, x 1, x 2, (eq_ix3 x)⟩
    have hz : z = 0 := Subsingleton.elim _ _
    subst hz
    have e0 : (y 0).val = 0 := h0
    have e1 : (y 1).val = d.val := h1
    have e2 : (y 2).val = e.val := h2
    have hl : 3080 + d.val < 3336 := by have := d.isLt; omega
    have ej : (⟨3080 + d.val, hl⟩ : Fin 3336) = jj := Fin.ext (by show 3080 + d.val = jj.val; omega)
    refine (dv_pay0 _ d e).trans (tf _ _ i jj (by simp only; omega) (fun k => (turn_3080 w k d).trans (congrArg (fun j => w (ix2 k j)) ej)))
end

end Cert.Kernel4Ideal.Proj
end
-- ==== Proof.ProjPoint.lean ====
module

public import proofs.«01_k».proof.Proof.ProjRows
public import proofs.«01_k».proof.Proof.ProjTiles

/-!
# What a point of the projection stores

Each of the seven results at a point.
-/

@[expose] public section

set_option maxRecDepth 16384
noncomputable section
open Idealize.ShloMosaic Idealize.ShloMosaic.TcCoe Idealize.SL.Sem

namespace Cert.Kernel4Ideal.Proj
open Cert.Kernel4Ideal Cert.Kernel4Ideal.Gen Cert.Kernel4Ideal.Value
open Cert.Reference4Ideal.Value (TOK COL)
variable (m : (ℓ : Loc nD τ sig) → Buf (Elt Ideal) ℓ)

/-- The second mixer's queries and keys. -/
theorem bqk_point (c : Dev nD) (t : Fin cfg0.N) (y : S512x512.Idx) (i : Fin 32768) (jj : Fin 3336) (hi : i.val = t.val * 512 + (y 0).val) (hj : jj.val = 768 + (y 1).val) :
    out_14 m c t y = COL (m ((c : Thread nD τ).loc main_arg0)) (m ((c : Thread nD τ).loc main_arg1)) (m ((c : Thread nD τ).loc main_arg2)) i jj := by
  unfold out_14 run
  refine bqk_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_ ?_
  · exact fun r k i hi => blk_tok m c t r k i hi
  · exact fun k j => blk_w m c t k j

/-- The second mixer's values. -/
theorem bv_point (c : Dev nD) (t : Fin cfg0.N) (y : S512x256.Idx) (i : Fin 32768) (jj : Fin 3336) (hi : i.val = t.val * 512 + (y 0).val) (hj : jj.val = 1280 + (y 1).val) :
    out_15 m c t y = COL (m ((c : Thread nD τ).loc main_arg0)) (m ((c : Thread nD τ).loc main_arg1)) (m ((c : Thread nD τ).loc main_arg2)) i jj := by
  unfold out_15 run
  refine bv_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_ ?_
  · exact fun r k i hi => blk_tok m c t r k i hi
  · exact fun k j => blk_w m c t k j

/-- The second mixer's output gate. -/
theorem bo_point (c : Dev nD) (t : Fin cfg0.N) (y : S512x256.Idx) (i : Fin 32768) (jj : Fin 3336) (hi : i.val = t.val * 512 + (y 0).val) (hj : jj.val = 1536 + (y 1).val) :
    out_16 m c t y = Ideal.logistic (COL (m ((c : Thread nD τ).loc main_arg0)) (m ((c : Thread nD τ).loc main_arg1)) (m ((c : Thread nD τ).loc main_arg2)) i jj) := by
  unfold out_16 run
  refine bo_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_ ?_
  · exact fun r k i hi => blk_tok m c t r k i hi
  · exact fun k j => blk_w m c t k j

/-- The fourth mixer's keys. -/
theorem dk_point (c : Dev nD) (t : Fin cfg0.N) (y : S512x256.Idx) (i : Fin 32768) (jj : Fin 3336) (hi : i.val = t.val * 512 + (y 0).val) (hj : jj.val = 2824 + (y 1).val) :
    out_23 m c t y = COL (m ((c : Thread nD τ).loc main_arg0)) (m ((c : Thread nD τ).loc main_arg1)) (m ((c : Thread nD τ).loc main_arg2)) i jj := by
  unfold out_23 run
  refine dk_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_ ?_
  · exact fun r k i hi => blk_tok m c t r k i hi
  · exact fun k j => blk_w m c t k j

/-- The first mixer's values. -/
theorem av_point (c : Dev nD) (t : Fin cfg0.N) (y : S2x256x256.Idx) (i : Fin 32768) (jj : Fin 3336) (hi : i.val = t.val * 512 + (y 0).val * 256 + (y 2).val) (hj : jj.val = 512 + (y 1).val) :
    out_13 m c t y = COL (m ((c : Thread nD τ).loc main_arg0)) (m ((c : Thread nD τ).loc main_arg1)) (m ((c : Thread nD τ).loc main_arg2)) i jj := by
  unfold out_13 run
  refine av_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_
  exact fun a r i j hi hu => turn_col m c t a r i j hi hu

/-- The fourth mixer's queries. -/
theorem dq_point (c : Dev nD) (t : Fin cfg0.N) (y : S2x256x256.Idx) (i : Fin 32768) (jj : Fin 3336) (hi : i.val = t.val * 512 + (y 0).val * 256 + (y 2).val) (hj : jj.val = 2568 + (y 1).val) :
    out_22 m c t y = COL (m ((c : Thread nD τ).loc main_arg0)) (m ((c : Thread nD τ).loc main_arg1)) (m ((c : Thread nD τ).loc main_arg2)) i jj := by
  unfold out_22 run
  refine dq_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_
  exact fun a r i j hi hu => turn_col m c t a r i j hi hu

/-- The fourth mixer's values. -/
theorem dv_point (c : Dev nD) (t : Fin cfg0.N) (y : S2x256x256.Idx) (i : Fin 32768) (jj : Fin 3336) (hi : i.val = t.val * 512 + (y 0).val * 256 + (y 2).val) (hj : jj.val = 3080 + (y 1).val) :
    out_24 m c t y = COL (m ((c : Thread nD τ).loc main_arg0)) (m ((c : Thread nD τ).loc main_arg1)) (m ((c : Thread nD τ).loc main_arg2)) i jj := by
  unfold out_24 run
  refine dv_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (m ((c : Thread nD τ).loc main_arg0)) (m ((c : Thread nD τ).loc main_arg1)) (m ((c : Thread nD τ).loc main_arg2)) t.val y i jj hi hj ?_
  exact fun a r i j hi hu => turn_col m c t a r i j hi hu

end Cert.Kernel4Ideal.Proj
end
-- ==== Proof.ProjVal.lean ====
module

public import proofs.«01_k».proof.Proof.ProjFrameIdeal
public import proofs.«01_k».proof.Proof.ProjPoint

/-!
# The projection's seven results

Each result array after the run is the reference's term: the points' blocks cover it.
-/

@[expose] public section

set_option maxRecDepth 16384
noncomputable section
open Idealize.ShloMosaic Idealize.ShloMosaic.TcCoe Idealize.SL.Sem

namespace Cert.Kernel4Ideal.Proj
open Cert.Kernel4Ideal Cert.Kernel4Ideal.Gen Cert.Kernel4Ideal.Value
open Cert.Reference4Ideal.Value
variable (m : (ℓ : Loc nD τ sig) → Buf (Elt Ideal) ℓ)

/-- The first mixer's values. -/
theorem final_av (c : Dev nD) : (dats m 0 c).arrAt 13 (cfgs 0).N = AV (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after_13]
  idx_vars y
  have ht : t.val < 64 := t.isLt
  obtain ⟨i, hi⟩ : ∃ i : Fin 32768, i.val = t.val * 512 + y0.val * 256 + y2.val := ⟨⟨t.val * 512 + y0.val * 256 + y2.val, by omega⟩, rfl⟩
  obtain ⟨jj, hj⟩ : ∃ j : Fin 3336, j.val = 512 + y1.val := ⟨⟨512 + y1.val, by omega⟩, rfl⟩
  refine (av_point m c t (ix3 y0 y1 y2) i jj hi hj).trans ?_
  rw [show jj = ⟨512 + y1.val, by omega⟩ from Fin.ext hj]
  refine (av_at _ _ _ (⟨t.val * 2 + y0.val, by omega⟩ : Fin 128) y1 y2 i (by simp only; omega)).symm.trans (congrArg _ ?_)
  blk_ext [idx_out t]

/-- The second mixer's queries and keys. -/
theorem final_bqk (c : Dev nD) : (dats m 0 c).arrAt 14 (cfgs 0).N = BQK (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after_14]
  idx_vars y
  have ht : t.val < 64 := t.isLt
  refine (bqk_point m c t _ ⟨t.val * 512 + y0.val, by omega⟩ ⟨768 + y1.val, by omega⟩ rfl rfl).trans ?_
  refine (bqk_at _ _ _ _ y1).symm.trans (congrArg _ ?_)
  blk_ext [idx_out t]

/-- The second mixer's values. -/
theorem final_bv (c : Dev nD) : (dats m 0 c).arrAt 15 (cfgs 0).N = BV (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after_15]
  idx_vars y
  have ht : t.val < 64 := t.isLt
  refine (bv_point m c t _ ⟨t.val * 512 + y0.val, by omega⟩ ⟨1280 + y1.val, by omega⟩ rfl rfl).trans ?_
  refine (bv_at _ _ _ _ y1).symm.trans (congrArg _ ?_)
  blk_ext [idx_out t]

/-- The second mixer's output gate. -/
theorem final_bo (c : Dev nD) : (dats m 0 c).arrAt 16 (cfgs 0).N = BO (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after_16]
  idx_vars y
  have ht : t.val < 64 := t.isLt
  refine (bo_point m c t _ ⟨t.val * 512 + y0.val, by omega⟩ ⟨1536 + y1.val, by omega⟩ rfl rfl).trans ?_
  refine (bo_at _ _ _ _ y1).symm.trans (congrArg _ ?_)
  blk_ext [idx_out t]

/-- The fourth mixer's queries. -/
theorem final_dq (c : Dev nD) : (dats m 0 c).arrAt 22 (cfgs 0).N = DQ (m ((c : Thread nD τ).loc main_arg0)) (m ((c : Thread nD τ).loc main_arg1)) (m ((c : Thread nD τ).loc main_arg2)) := by
  refine (dats m 0 c).arrAt_eq_of_covers 22 _ (by decide +kernel) fun t _ y => ?_
  blk_simp
  rw [after_22]
  idx_vars y
  have ht : t.val < 64 := t.isLt
  obtain ⟨i, hi⟩ : ∃ i : Fin 32768, i.val = t.val * 512 + y0.val * 256 + y2.val := ⟨⟨t.val * 512 + y0.val * 256 + y2.val, by omega⟩, rfl⟩
  obtain ⟨jj, hj⟩ : ∃ j : Fin 3336, j.val = 2568 + y1.val := ⟨⟨2568 + y1.val, by omega⟩, rfl⟩
  refine (dq_point m c t (ix3 y0 y1 y2) i jj hi hj).trans ?_
  rw [show jj = ⟨2568 + y1.val, by omega⟩ from Fin.ext hj]
  refine (dq_at _ _ _ (⟨t.val * 2 + y0.val, by omega⟩ : Fin 128) y1 y2 i (by simp only; omega)).symm.trans (congrArg _ ?_)
  blk_ext [idx_out t]

/-- The fourth mixer's keys. -/
theorem final_dk (c : Dev nD) : (dats m 0 c).arrAt 23 (cfgs 0).N = DK (m ((c : Thread nD τ).loc main_arg0)) (m ((c : Thread nD τ).loc main_arg1)) (m ((c : Thread nD τ).loc main_arg2)) := by
  refine (dats m 0 c).arrAt_eq_of_covers 23 _ (by decide +kernel) fun t _ y => ?_
  blk_simp
  rw [after_23]
  idx_vars y
  have ht : t.val < 64 := t.isLt
  refine (dk_point m c t _ ⟨t.val * 512 + y0.val, by omega⟩ ⟨2824 + y1.val, by omega⟩ rfl rfl).trans ?_
  refine (dk_at _ _ _ _ y1).symm.trans (congrArg _ ?_)
  blk_ext [idx_out t]

/-- The fourth mixer's values. -/
theorem final_dv (c : Dev nD) : (dats m 0 c).arrAt 24 (cfgs 0).N = DV (m ((c : Thread nD τ).loc main_arg0)) (m ((c : Thread nD τ).loc main_arg1)) (m ((c : Thread nD τ).loc main_arg2)) := by
  refine (dats m 0 c).arrAt_eq_of_covers 24 _ (by decide +kernel) fun t _ y => ?_
  blk_simp
  rw [after_24]
  idx_vars y
  have ht : t.val < 64 := t.isLt
  obtain ⟨i, hi⟩ : ∃ i : Fin 32768, i.val = t.val * 512 + y0.val * 256 + y2.val := ⟨⟨t.val * 512 + y0.val * 256 + y2.val, by omega⟩, rfl⟩
  obtain ⟨jj, hj⟩ : ∃ j : Fin 3336, j.val = 3080 + y1.val := ⟨⟨3080 + y1.val, by omega⟩, rfl⟩
  refine (dv_point m c t (ix3 y0 y1 y2) i jj hi hj).trans ?_
  rw [show jj = ⟨3080 + y1.val, by omega⟩ from Fin.ext hj]
  refine (dv_at _ _ _ (⟨t.val * 2 + y0.val, by omega⟩ : Fin 128) y1 y2 i (by simp only; omega)).symm.trans (congrArg _ ?_)
  blk_ext [idx_out t]

end Cert.Kernel4Ideal.Proj
end
-- ==== Proof.Ffn.lean ====
module

public import proofs.«01_k».proof.Proof.Gen.KernelIdeal.Value
public import proofs.«01_k».proof.Proof.Gen.ReferenceIdeal.Run
public import proofs.«01_k».proof.Proof.Rows
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.ReferenceIdeal.Value
open Cert.ReferenceIdeal Cert.ReferenceIdeal.Gen

/-- The reference's result as a term over its arguments. -/
def REF (X : FVec Ideal S2x16384x1024 .f32) (g : FVec Ideal S1024 .f32) (wg wu : FVec Ideal S1024x2816 .f32)
    (wd : FVec Ideal S2816x1024 .f32) : FVec Ideal S32768x1024 .f32 :=
  shapeCast S32768x1024 (addf X (mulf (broadcastInDim S2x16384x1024 ![] bcast_S_S2x16384x1024 (constant S_ .f32 0x3F000000#32)) (Host.dotGeneral dot_S2x16384x2816_S2816x1024_S2x16384x1024_2_0_01_1_n_n none (mulf (mulf (Host.dotGeneral dot_S2x16384x1024_S1024x2816_S2x16384x2816_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) wg) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (Host.dotGeneral dot_S2x16384x1024_S1024x2816_S2x16384x2816_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) wg)))))) (Host.dotGeneral dot_S2x16384x1024_S1024x2816_S2x16384x2816_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) wu)) wd))) shapeCasts_S2x16384x1024_S32768x1024

/-- Row `i` of the reference's result is `Rows.res` of the token's row. -/
theorem ref_at (X : FVec Ideal S2x16384x1024 .f32) (g : FVec Ideal S1024 .f32) (wg wu : FVec Ideal S1024x2816 .f32)
    (wd : FVec Ideal S2816x1024 .f32) (i : Fin 32768) (j : Fin 1024) :
    REF X g wg wu wd (ix2 i j) = Rows.res (fun k => X (ix3 (⟨i.val / 16384, by omega⟩ : Fin 2) (⟨i.val % 16384, by omega⟩ : Fin 16384) k))
      (fun k => g (ix1 k)) (fun k f => wg (ix2 k f)) (fun k f => wu (ix2 k f)) (fun f j => wd (ix2 f j)) j := by
  pointwise [REF, Rows.res, Rows.hid, Rows.dot, Rows.norm]
  rfl

end Cert.ReferenceIdeal.Value

namespace Cert.KernelIdeal.Value
open Cert.KernelIdeal Cert.KernelIdeal.Gen
variable (m : (ℓ : Loc nD τ sig) → Buf (Elt Ideal) ℓ)

/-- The normalised block, row by row. -/
theorem norm_at (x0 : FVec Ideal S512x1024 .f32) (x1 : FVec Ideal S1x1024 .f32) (r : Fin 512) (k : Fin 1024) :
    k0_pay3 (F := Ideal) x0 x1 (ix2 r k) = Rows.norm (fun k => x0 (ix2 r k)) (fun k => x1 (ix2 (0 : Fin 1) k)) k := by
  pointwise! [k0_pay3, k0_pay2, Rows.norm]

/-- What one grid point stores, row by row: `Rows.res` of the block's row. -/
theorem out_at (x0 : Vec Ideal S512x1024 .f32) (x1 : Vec Ideal S1x1024 .f32) (x2 x3 : Vec Ideal S1024x2816 .bf16)
    (x4 : Vec Ideal S2816x1024 .bf16) (r : Fin 512) (j : Fin 1024) :
    out0_5 x0 x1 x2 x3 x4 (ix2 r j) = Rows.res (fun k => x0 (ix2 r k)) (fun k => x1 (ix2 (0 : Fin 1) k))
      (fun k f => x2 (ix2 k f)) (fun k f => x3 (ix2 k f)) (fun f j => x4 (ix2 f j)) j := by
  unfold_out out0_5
  frame_out
  pointwise [k0_pay1, k0_pay2, k0_pay4, k0_pay5, k0_pay6, k0_pay7, k0_pay8, k0_pay9, k0_pay10, k0_pay11, k0_pay12, k0_pay13]
  rw [Rows.res, Rows.sum_runs]
  have h : Rows.norm (fun k => x0 (ix2 r k)) (fun k => x1 (ix2 (0 : Fin 1) k)) = fun k => k0_pay3 (F := Ideal) x0 x1 (ix2 r k) :=
    funext fun k => (norm_at x0 x1 r k).symm
  simp only [Rows.hid, Rows.dot, h]

/-- The windows' block indices at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- What point `t` stores at block index `y` is the reference's term at the place `y` has in the array. -/
theorem point (c : Dev nD) (t : Fin cfg0.N) (r : Fin 512) (j : Fin 1024) (i : Fin 32768) (hi : i.val = t.val * 512 + r.val) :
    out0_5 (iblk m c 0 t) (iblk m c 1 t) (iblk m c 2 t) (iblk m c 3 t) (iblk m c 4 t) (ix2 r j)
      = Cert.ReferenceIdeal.Value.REF (m ((c : Thread nD τ).loc main_arg0)) (m ((c : Thread nD τ).loc main_arg1))
        (m ((c : Thread nD τ).loc main_arg2)) (m ((c : Thread nD τ).loc main_arg3)) (m ((c : Thread nD τ).loc main_arg4))
        (ix2 i j) := by
  rw [out_at]
  refine Eq.trans ?_ (Cert.ReferenceIdeal.Value.ref_at _ _ _ _ _ _ _).symm
  simp only [Rows.res, Rows.norm, Rows.hid, Rows.dot]
  blk_point [iblk, V, idx t]

/-- The result array after the run is the reference's term. -/
theorem final (c : Dev nD) : (dats m 0 c).arrAt 5 (cfgs 0).N
    = Cert.ReferenceIdeal.Value.REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have ht : t.val < 64 := t.isLt
  refine (point m c t y0 y1 ⟨t.val * 512 + y0.val, by omega⟩ rfl).trans (congrArg _ ?_)
  blk_ext [idx t]

end Cert.KernelIdeal.Value
end
-- ==== Proof.MixOut.lean ====
module

public import proofs.«01_k».proof.Proof.Gen.Kernel2Ideal.Value
public import proofs.«01_k».proof.Proof.Gen.Reference2Ideal.Run
public import proofs.«01_k».proof.Proof.Ffn
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem

namespace Cert.Reference2Ideal.Value
open Cert.Reference2Ideal Cert.Reference2Ideal.Gen

/-- The tokens and what the four mixers give, side by side, through the output matrix. -/
def MIX (X : FVec Ideal S2x16384x1024 .f32) (a b c d : FVec Ideal S2x16384x256 .bf16) (w : FVec Ideal S1024x1024 .f32) :
    FVec Ideal S2x16384x1024 .f32 :=
  addf X (Host.dotGeneral dot_S2x16384x1024_S1024x1024_S2x16384x1024_2_0_01_1_n_n none (extf .f32 (concatenate S2x16384x1024 2 [⟨S2x16384x256, a⟩, ⟨S2x16384x256, b⟩, ⟨S2x16384x256, c⟩, ⟨S2x16384x256, d⟩] concatenates_S2x16384x256_S2x16384x256_S2x16384x256_S2x16384x256_S2x16384x1024_d2 : FVec Ideal S2x16384x1024 .bf16) bitsLt_bf16_f32) w)

/-- The reference's result as a term over its arguments: the feed-forward block after the output matrix. -/
def REF (X : FVec Ideal S2x16384x1024 .f32) (a b c d : FVec Ideal S2x16384x256 .bf16) (w : FVec Ideal S1024x1024 .f32)
    (g : FVec Ideal S1024 .f32) (wg wu : FVec Ideal S1024x2816 .f32) (wd : FVec Ideal S2816x1024 .f32) : FVec Ideal S32768x1024 .f32 :=
  Cert.ReferenceIdeal.Value.REF (MIX X a b c d w) g wg wu wd

/-- The reference's run names its result by a term; that term is `REF` of the arguments. -/
theorem res_eq (m : (ℓ : Loc nD τ sig) → Buf (Elt Ideal) ℓ) (c : Dev nD) : res_main_v25 m c
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) := rfl

/-- A row of `MIX` is `Rows.mix` of the token's row and the mixers' rows. -/
theorem mix_at (X : FVec Ideal S2x16384x1024 .f32) (a b c d : FVec Ideal S2x16384x256 .bf16) (w : FVec Ideal S1024x1024 .f32)
    (n : Fin 2) (s : Fin 16384) (j : Fin 1024) :
    MIX X a b c d w (ix3 n s j) = Rows.mix (fun k => X (ix3 n s k)) (fun k => a (ix3 n s k)) (fun k => b (ix3 n s k))
      (fun k => c (ix3 n s k)) (fun k => d (ix3 n s k)) (fun k f => w (ix2 k f)) j := by
  pointwise [MIX, Rows.mix]
  exact congrArg _ (Rows.sum_side (fun k => a (ix3 n s k)) (fun k => b (ix3 n s k)) (fun k => c (ix3 n s k))
    (fun k => d (ix3 n s k)) (fun k => w (ix2 k j)))

end Cert.Reference2Ideal.Value

namespace Cert.Kernel2Ideal.Value
open Cert.Kernel2Ideal Cert.Kernel2Ideal.Gen
variable (m : (ℓ : Loc nD τ sig) → Buf (Elt Ideal) ℓ)

section
variable (x0 : Vec Ideal S512x1024 .f32) (x1 x2 x3 x4 : Vec Ideal S512x256 .bf16) (x5 : Vec Ideal S1024x1024 .bf16)
  (x6 : Vec Ideal S1x1024 .f32) (x7 x8 : Vec Ideal S1024x2816 .bf16) (x9 : Vec Ideal S2816x1024 .bf16) (r : Fin 512)

/-- The row of the block after the output matrix. -/
abbrev row : Fin 1024 → EReal :=
  Rows.mix (fun k => x0 (ix2 r k)) (fun k => x1 (ix2 r k)) (fun k => x2 (ix2 r k)) (fun k => x3 (ix2 r k)) (fun k => x4 (ix2 r k))
    (fun k f => x5 (ix2 k f))

/-- The block after the output matrix, row by row. -/
theorem mix_at (k : Fin 1024) : k0_pay14 (F := Ideal) x0 x1 x2 x3 x4 x5 x6 x7 x8 x9 (ix2 r k) = row x0 x1 x2 x3 x4 x5 r k := by
  unfold k0_pay14
  frame_out
  pointwise [k0_pay2, row, Rows.mix]
  simp only [add_assoc]

/-- The normalised block, row by row. -/
theorem norm_at (k : Fin 1024) : k0_pay4 (F := Ideal) (k0_pay14 (F := Ideal) x0 x1 x2 x3 x4 x5 x6 x7 x8 x9) (k0_pay15 (F := Ideal) x0 x1 x2 x3 x4 x5 x6 x7 x8 x9) x6 (ix2 r k)
    = Rows.norm (row x0 x1 x2 x3 x4 x5 r) (fun k => x6 (ix2 (0 : Fin 1) k)) k := by
  have h : k0_pay15 (F := Ideal) x0 x1 x2 x3 x4 x5 x6 x7 x8 x9 (ix2 r (0 : Fin 1)) = Ideal.rsqrt (Ideal.div (∑ l, row x0 x1 x2 x3 x4 x5 r l * row x0 x1 x2 x3 x4 x5 r l) (Ideal.ofBits .f32 0x44800000#32)
    + Ideal.ofBits .f32 0x358637BD#32) := by
    simp only [← mix_at x0 x1 x2 x3 x4 x5 x6 x7 x8 x9]
    unfold k0_pay15 k0_pay14
    pointwise [k0_pay3]
  pointwise [k0_pay4]
  rw [Rows.norm, ← h, ← mix_at x0 x1 x2 x3 x4 x5 x6 x7 x8 x9]

/-- What one grid point stores, row by row: `Rows.res` of the row after the output matrix. -/
theorem out_at (j : Fin 1024) :
    out0_10 x0 x1 x2 x3 x4 x5 x6 x7 x8 x9 (ix2 r j) = Rows.res (row x0 x1 x2 x3 x4 x5 r) (fun k => x6 (ix2 (0 : Fin 1) k))
      (fun k f => x7 (ix2 k f)) (fun k f => x8 (ix2 k f)) (fun f j => x9 (ix2 f j)) j := by
  unfold out0_10 k0_pay16
  frame_out
  pointwise [k0_pay1, k0_pay5, k0_pay6, k0_pay7, k0_pay8, k0_pay9, k0_pay10, k0_pay11, k0_pay12, k0_pay13]
  rw [Rows.res, Rows.sum_runs]
  have h : Rows.norm (row x0 x1 x2 x3 x4 x5 r) (fun k => x6 (ix2 (0 : Fin 1) k))
      = fun k => k0_pay4 (F := Ideal) (k0_pay14 (F := Ideal) x0 x1 x2 x3 x4 x5 x6 x7 x8 x9) (k0_pay15 (F := Ideal) x0 x1 x2 x3 x4 x5 x6 x7 x8 x9) x6 (ix2 r k) :=
    funext fun k => (norm_at x0 x1 x2 x3 x4 x5 x6 x7 x8 x9 r k).symm
  simp only [Rows.hid, Rows.dot, h, ← mix_at x0 x1 x2 x3 x4 x5 x6 x7 x8 x9]

end

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- What point `t` stores at block index `y` is the reference's term at the place `y` has in the array. -/
theorem point (c : Dev nD) (t : Fin cfg0.N) (r : Fin 512) (j : Fin 1024) (i : Fin 32768) (hi : i.val = t.val * 512 + r.val) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 r j)
      = Cert.Reference2Ideal.Value.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (ix2 i j) := by
  rw [out_at]
  refine Eq.trans ?_ (Cert.ReferenceIdeal.Value.ref_at _ _ _ _ _ _ _).symm
  simp only [Cert.Reference2Ideal.Value.mix_at]
  simp only [Rows.res, Rows.norm, Rows.hid, Rows.dot, row, Rows.mix]
  blk_point [iblk, V, idx t]

/-- The result array after the run is the reference's term. -/
theorem final (c : Dev nD) : (dats m 0 c).arrAt 10 (cfgs 0).N
    = Cert.Reference2Ideal.Value.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t _ y => ?_
  blk_simp
  rw [after0_10]
  idx_vars y
  have ht : t.val < 64 := t.isLt
  refine (point m c t y0 y1 ⟨t.val * 512 + y0.val, by omega⟩ rfl).trans (congrArg _ ?_)
  blk_ext [idx t]

end Cert.Kernel2Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.AttnFrame
public import proofs.«01_k».proof.Proof.AttnVal
public import proofs.«01_k».proof.Proof.AttnRef
public import proofs.«01_k».proof.Proof.Gen.Reference3Ideal.Run
public import proofs.«01_k».proof.Proof.Gen.Reference2Ideal.Run
public import proofs.«01_k».proof.Proof.ProjFrame
public import proofs.«01_k».proof.Proof.ProjVal
public import proofs.«01_k».proof.Proof.Gen.Reference4Ideal.Run
public import proofs.«01_k».proof.Proof.Ffn
public import proofs.«01_k».proof.Proof.MixOut
public import Idealize.ShloMosaic.Adequacy
public import Idealize.ShloMosaic.Init
public import Idealize.ShloMosaic.Lib.Claim

@[expose] public section

noncomputable section

namespace Cert.Proof

open Idealize.ShloMosaic Idealize.SL.Sem Cert.Kernel

set_option maxHeartbeats 3200000 in
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, by
  refine ⟨?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m g _ => (θ_run Cert.ReferenceIdeal.defs _ _).mono (fun r h => ⟨fun c => (h c).2,
      sem_eq_zero_of_no_sems (by decide) r.2⟩) (Cert.ReferenceIdeal.Value.run (F := Ideal) m g)
  · exact fun m ρ _ => Cert.Kernel2.Gen.frame m ρ
  · exact fun m ρ _ => Cert.Kernel2Ideal.Gen.frame m ρ
  · exact fun m g _ => (θ_run Cert.Reference2Ideal.defs _ _).mono (fun r h => ⟨fun c => (h c).2,
      sem_eq_zero_of_no_sems (by decide) r.2⟩) (Cert.Reference2Ideal.Value.run (F := Ideal) m g)
  · exact fun m ρ _ => Cert.Kernel3.Attn.frame m ρ
  · exact fun m ρ _ => Cert.Kernel3Ideal.Attn.frame m ρ
  · exact fun m g _ => (θ_run Cert.Reference3Ideal.defs _ _).mono (fun r h => ⟨fun c => (h c).2,
      sem_eq_zero_of_no_sems (by decide) r.2⟩) (Cert.Reference3Ideal.Value.run (F := Ideal) m g)
  · exact fun m ρ _ => Cert.Kernel4.Proj.frame m ρ
  · exact fun m ρ _ => Cert.Kernel4Ideal.Proj.frame m ρ
  · exact fun m g _ => (θ_run Cert.Reference4Ideal.defs _ _).mono (fun r h => ⟨fun c => (h c).2.2.2.2.2.2.2,
      sem_eq_zero_of_no_sems (by decide) r.2⟩) (Cert.Reference4Ideal.Value.run (F := Ideal) m g)
  · trivial
  · pair_intro
    · run_from Cert.KernelIdeal.Gen.run_main m g
    · run_from Cert.ReferenceIdeal.Value.run m' g'
      exact (Cert.KernelIdeal.Value.final m c).symm
  · trivial
  · pair_intro
    · run_from Cert.Kernel2Ideal.Gen.run_main m g
    · run_from Cert.Reference2Ideal.Value.run m' g'
      refine (Cert.Reference2Ideal.Value.res_eq m' c).trans ?_
      simp only [hagree c]
      exact (Cert.Kernel2Ideal.Value.final m c).symm
  · exact ⟨IdealRules.named_const.statement Cert.Kernel3Ideal.κ "qscale" .f32 _ _ rfl,
      IdealRules.named_const.statement Cert.Kernel3Ideal.κ "log2e" .f32 _ _ rfl,
      IdealRules.named_const.statement Cert.Kernel3Ideal.κ "mask" .f32 _ _ rfl⟩
  · pair_intro
    · run_from Cert.Kernel3Ideal.Attn.run_value m g
    · run_from Cert.Reference3Ideal.Value.run m' g'
      refine (Cert.Reference3Ideal.Value.res_eq m' c).trans ?_
      simp only [hagree c]
      exact (Cert.Kernel3Ideal.Attn.final m c).symm
  · trivial
  · pair_intro
    · run_from Cert.Kernel4Ideal.Proj.run_value m g
    · run_from Cert.Reference4Ideal.Value.run m' g'
      · exact (Cert.Kernel4Ideal.Proj.final_av m c).symm
      · exact (Cert.Kernel4Ideal.Proj.final_bqk m c).symm
      · exact (Cert.Kernel4Ideal.Proj.final_bv m c).symm
      · exact (Cert.Kernel4Ideal.Proj.final_bo m c).symm
      · exact (Cert.Kernel4Ideal.Proj.final_dq m c).symm
      · exact (Cert.Kernel4Ideal.Proj.final_dk m c).symm
      · exact (Cert.Kernel4Ideal.Proj.final_dv m c).symm⟩

end Cert.Proof
